-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_head_gains_finite [hPre_head_gains_finite : Cert.Pre_head_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_head_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_head_gains_finite [hPre_head_gains_finite : Cert.Pre_head_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_head_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_head_gains_finite [hKernelIdeal : Cert.KernelIdeal.Facts] [hPre_head_gains_finite : Cert.Pre_head_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_head_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_head_gains_finite [hReferenceIdeal : Cert.ReferenceIdeal.Facts] [hPre_head_gains_finite : Cert.Pre_head_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_head_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_head_gains_finite [hKernelIdeal : Cert.KernelIdeal.Facts] [hReferenceIdeal : Cert.ReferenceIdeal.Facts] [hPre_head_gains_finite : Cert.Pre_head_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_head_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_head_gains_finite : Cert.Pre_head_gains_finite.Facts),
    quiescent_Kernel (hKernel := hKernel)
    ∧ quiescent_KernelIdeal (hKernelIdeal := hKernelIdeal)
    ∧ quiescent_KernelIdeal_pre_head_gains_finite (hKernelIdeal := hKernelIdeal) (hPre_head_gains_finite := hPre_head_gains_finite)
    ∧ quiescent_ReferenceIdeal (hReferenceIdeal := hReferenceIdeal)
    ∧ quiescent_ReferenceIdeal_pre_head_gains_finite (hReferenceIdeal := hReferenceIdeal) (hPre_head_gains_finite := hPre_head_gains_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_head_gains_finite (hKernelIdeal := hKernelIdeal) (hReferenceIdeal := hReferenceIdeal) (hPre_head_gains_finite := hPre_head_gains_finite)
    ∧ preserves_Kernel2_Kernel2Ideal
    ∧ algebraic_Kernel2Ideal_Reference2Ideal (hKernel2Ideal := hKernel2Ideal) (hReference2Ideal := hReference2Ideal)
-- ==== Pre_head_gains_finite.lean ====
abbrev S16x2048x1024 : Shape := ⟨3, ![16, 2048, 1024]⟩
abbrev S16x256x1024 : Shape := ⟨3, ![16, 256, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S16x2048x1024 .f32) (main_arg1 : FVec F S16x2048x1024 .bf16) (main_arg2 : FVec F S16x256x1024 .f32) (main_arg3 : FVec F S1x1024x1024 .f32) (main_arg4 : FVec F S1x1024 .f32) (main_arg5 : FVec F S1x1024 .f32) (main_arg6 : FVec F S1x1024x512 .f32) (main_arg7 : FVec F S1x1024x1024 .f32) (main_arg8 : FVec F S1x128 .f32) (main_arg9 : FVec F S1x128 .f32) (main_arg10 : FVec F S1x512x1024 .f32) (main_arg11 : FVec F S1x1024 .f32) (main_arg12 : FVec F S1x1024x4096 .f32) (main_arg13 : FVec F S1x4096x1024 .f32) : IVec S1x128 1 :=
  let main_v0 : FVec F S1x128 .f32 := Host.absf main_arg8
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg9
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Kernel.lean ====
abbrev S16x2048x1024 : Shape := ⟨3, ![16, 2048, 1024]⟩
abbrev S16x256x1024 : Shape := ⟨3, ![16, 256, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S128 : Shape := ⟨1, ![128]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S256x512 : Shape := ⟨2, ![256, 512]⟩
abbrev S1024x512 : Shape := ⟨2, ![1024, 512]⟩
abbrev S512x1024 : Shape := ⟨2, ![512, 1024]⟩
abbrev S1024x4096 : Shape := ⟨2, ![1024, 4096]⟩
abbrev S4096x1024 : Shape := ⟨2, ![4096, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩

abbrev nBuf : Space → Nat
  | .hbm => 39
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x256x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x512, .f32⟩
  | .hbm, ⟨7, _⟩ => ⟨S1x1024x1024, .f32⟩
  | .hbm, ⟨8, _⟩ => ⟨S1x128, .f32⟩
  | .hbm, ⟨9, _⟩ => ⟨S1x128, .f32⟩
  | .hbm, ⟨10, _⟩ => ⟨S1x512x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S128, .f32⟩
  | .hbm, ⟨19, _⟩ => ⟨S1x128, .f32⟩
  | .hbm, ⟨20, _⟩ => ⟨S16x256x512, .bf16⟩
  | .hbm, ⟨21, _⟩ => ⟨S16x256x512, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024x512, .f32⟩
  | .hbm, ⟨27, _⟩ => ⟨S1024x512, .bf16⟩
  | .hbm, ⟨28, _⟩ => ⟨S128, .f32⟩
  | .hbm, ⟨29, _⟩ => ⟨S1x128, .f32⟩
  | .hbm, ⟨30, _⟩ => ⟨S512x1024, .f32⟩
  | .hbm, ⟨31, _⟩ => ⟨S512x1024, .bf16⟩
  | .hbm, ⟨32, _⟩ => ⟨S1024, .f32⟩
  | .hbm, ⟨33, _⟩ => ⟨S1x1024, .f32⟩
  | .hbm, ⟨34, _⟩ => ⟨S1024x4096, .f32⟩
  | .hbm, ⟨35, _⟩ => ⟨S1024x4096, .bf16⟩
  | .hbm, ⟨36, _⟩ => ⟨S4096x1024, .f32⟩
  | .hbm, ⟨37, _⟩ => ⟨S4096x1024, .bf16⟩
  | .hbm, ⟨38, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x512, .bf16⟩
  | .local _ .vmem, ⟨16, _⟩ => ⟨S1x128, .f32⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S512x1024, .bf16⟩
  | .local _ .vmem, ⟨22, _⟩ => ⟨S1x1024, .f32⟩
  | .local _ .vmem, ⟨23, _⟩ => ⟨S1024x4096, .bf16⟩
  | .local _ .vmem, ⟨24, _⟩ => ⟨S4096x1024, .bf16⟩
  | .local _ .vmem, ⟨25, _⟩ => ⟨S1x512x1024, .f32⟩
  | .local _ .vmem, ⟨26, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg12_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem12_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1024x4096 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S4096x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S16x2048x1024 : Shape := ⟨3, ![16, 2048, 1024]⟩
abbrev S16x256x1024 : Shape := ⟨3, ![16, 256, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S1024x512 : Shape := ⟨2, ![1024, 512]⟩
abbrev S128 : Shape := ⟨1, ![128]⟩
abbrev S512x1024 : Shape := ⟨2, ![512, 1024]⟩
abbrev S16x2048x512 : Shape := ⟨3, ![16, 2048, 512]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S1024x4096 : Shape := ⟨2, ![1024, 4096]⟩
abbrev S16x2048x4096 : Shape := ⟨3, ![16, 2048, 4096]⟩
abbrev S4096x1024 : Shape := ⟨2, ![4096, 1024]⟩

abbrev nBuf : Space → Nat
  | .hbm => 145
  | .vmem => 0
  | .smem => 0
  | _ => 0

abbrev hbmTy0_0 (i : Nat) : BufTy := match i % 128 with
  | 0 => ⟨S16x2048x1024, .f32⟩
  | 1 => ⟨S16x2048x1024, .bf16⟩
  | 2 => ⟨S16x256x1024, .f32⟩
  | 3 => ⟨S1x1024x1024, .f32⟩
  | 4 => ⟨S1x1024, .f32⟩
  | 5 => ⟨S1x1024, .f32⟩
  | 6 => ⟨S1x1024x512, .f32⟩
  | 7 => ⟨S1x1024x1024, .f32⟩
  | 8 => ⟨S1x128, .f32⟩
  | 9 => ⟨S1x128, .f32⟩
  | 10 => ⟨S1x512x1024, .f32⟩
  | 11 => ⟨S1x1024, .f32⟩
  | 12 => ⟨S1x1024x4096, .f32⟩
  | 13 => ⟨S1x4096x1024, .f32⟩
  | 14 => ⟨S16x2048x1024, .f32⟩
  | 15 => ⟨S1024x1024, .f32⟩
  | 16 => ⟨S16x2048x1024, .f32⟩
  | 17 => ⟨S16x2048x1024, .f32⟩
  | 18 => ⟨S1024, .f32⟩
  | 19 => ⟨S16x2048x1024, .f32⟩
  | 20 => ⟨S_, .f32⟩
  | 21 => ⟨S16x2048, .f32⟩
  | 22 => ⟨S16x2048x1, .f32⟩
  | 23 => ⟨S_, .f32⟩
  | 24 => ⟨S16x2048x1, .f32⟩
  | 25 => ⟨S16x2048x1, .f32⟩
  | 26 => ⟨S_, .f32⟩
  | 27 => ⟨S16x2048x1, .f32⟩
  | 28 => ⟨S16x2048x1, .f32⟩
  | 29 => ⟨S16x2048x1, .f32⟩
  | 30 => ⟨S16x2048x1024, .f32⟩
  | 31 => ⟨S16x2048x1024, .f32⟩
  | 32 => ⟨S1x1x1024, .f32⟩
  | 33 => ⟨S16x2048x1024, .f32⟩
  | 34 => ⟨S16x2048x1024, .f32⟩
  | 35 => ⟨S1024, .f32⟩
  | 36 => ⟨S16x256x1024, .f32⟩
  | 37 => ⟨S_, .f32⟩
  | 38 => ⟨S16x256, .f32⟩
  | 39 => ⟨S16x256x1, .f32⟩
  | 40 => ⟨S_, .f32⟩
  | 41 => ⟨S16x256x1, .f32⟩
  | 42 => ⟨S16x256x1, .f32⟩
  | 43 => ⟨S_, .f32⟩
  | 44 => ⟨S16x256x1, .f32⟩
  | 45 => ⟨S16x256x1, .f32⟩
  | 46 => ⟨S16x256x1, .f32⟩
  | 47 => ⟨S16x256x1024, .f32⟩
  | 48 => ⟨S16x256x1024, .f32⟩
  | 49 => ⟨S1x1x1024, .f32⟩
  | 50 => ⟨S16x256x1024, .f32⟩
  | 51 => ⟨S16x256x1024, .f32⟩
  | 52 => ⟨S1024x512, .f32⟩
  | 53 => ⟨S1024x1024, .f32⟩
  | 54 => ⟨S128, .f32⟩
  | 55 => ⟨S128, .f32⟩
  | 56 => ⟨S512x1024, .f32⟩
  | 57 => ⟨S16x2048x512, .f32⟩
  | 58 => ⟨S16x2048x4x128, .f32⟩
  | 59 => ⟨S16x2048x4x128, .f32⟩
  | 60 => ⟨S_, .f32⟩
  | 61 => ⟨S16x2048x4, .f32⟩
  | 62 => ⟨S16x2048x4x1, .f32⟩
  | 63 => ⟨S_, .f32⟩
  | 64 => ⟨S16x2048x4x1, .f32⟩
  | 65 => ⟨S16x2048x4x1, .f32⟩
  | 66 => ⟨S_, .f32⟩
  | 67 => ⟨S16x2048x4x1, .f32⟩
  | 68 => ⟨S16x2048x4x1, .f32⟩
  | 69 => ⟨S16x2048x4x1, .f32⟩
  | 70 => ⟨S16x2048x4x128, .f32⟩
  | 71 => ⟨S16x2048x4x128, .f32⟩
  | 72 => ⟨S1x1x1x128, .f32⟩
  | 73 => ⟨S16x2048x4x128, .f32⟩
  | 74 => ⟨S16x2048x4x128, .f32⟩
  | 75 => ⟨S16x256x1024, .f32⟩
  | 76 => ⟨S16x256x512, .f32⟩
  | 77 => ⟨S16x256x4x128, .f32⟩
  | 78 => ⟨S16x256x4x128, .f32⟩
  | 79 => ⟨S_, .f32⟩
  | 80 => ⟨S16x256x4, .f32⟩
  | 81 => ⟨S16x256x4x1, .f32⟩
  | 82 => ⟨S_, .f32⟩
  | 83 => ⟨S16x256x4x1, .f32⟩
  | 84 => ⟨S16x256x4x1, .f32⟩
  | 85 => ⟨S_, .f32⟩
  | 86 => ⟨S16x256x4x1, .f32⟩
  | 87 => ⟨S16x256x4x1, .f32⟩
  | 88 => ⟨S16x256x4x1, .f32⟩
  | 89 => ⟨S16x256x4x128, .f32⟩
  | 90 => ⟨S16x256x4x128, .f32⟩
  | 91 => ⟨S1x1x1x128, .f32⟩
  | 92 => ⟨S16x256x4x128, .f32⟩
  | 93 => ⟨S16x256x4x128, .f32⟩
  | 94 => ⟨S16x256x512, .f32⟩
  | 95 => ⟨S16x256x4x128, .f32⟩
  | 96 => ⟨S16x4x2048x256, .f32⟩
  | 97 => ⟨S_, .f32⟩
  | 98 => ⟨S16x4x2048x256, .f32⟩
  | 99 => ⟨S16x4x2048x256, .f32⟩
  | 100 => ⟨S_, .f32⟩
  | 101 => ⟨S16x4x2048, .f32⟩
  | 102 => ⟨S_, .f32⟩
  | 103 => ⟨S16x4x2048, .f32⟩
  | 104 => ⟨S16x4x2048, .f32⟩
  | 105 => ⟨S16x4x2048x1, .f32⟩
  | 106 => ⟨S16x4x2048x256, .f32⟩
  | 107 => ⟨S16x4x2048x256, .f32⟩
  | 108 => ⟨S16x4x2048x256, .f32⟩
  | 109 => ⟨S_, .f32⟩
  | 110 => ⟨S16x4x2048, .f32⟩
  | 111 => ⟨S16x4x2048x1, .f32⟩
  | 112 => ⟨S16x4x2048x256, .f32⟩
  | 113 => ⟨S16x4x2048x256, .f32⟩
  | 114 => ⟨S16x4x128x2048, .f32⟩
  | 115 => ⟨S16x2048x4x128, .f32⟩
  | 116 => ⟨S16x2048x512, .f32⟩
  | 117 => ⟨S16x2048x1024, .f32⟩
  | 118 => ⟨S16x2048x1024, .f32⟩
  | 119 => ⟨S1024, .f32⟩
  | 120 => ⟨S16x2048x1024, .f32⟩
  | 121 => ⟨S_, .f32⟩
  | 122 => ⟨S16x2048, .f32⟩
  | 123 => ⟨S16x2048x1, .f32⟩
  | 124 => ⟨S_, .f32⟩
  | 125 => ⟨S16x2048x1, .f32⟩
  | 126 => ⟨S16x2048x1, .f32⟩
  | 127 => ⟨S_, .f32⟩
  | _ => ⟨S16x2048x1024, .f32⟩

abbrev hbmTy0_1 (i : Nat) : BufTy := match i % 128 with
  | 0 => ⟨S16x2048x1, .f32⟩
  | 1 => ⟨S16x2048x1, .f32⟩
  | 2 => ⟨S16x2048x1, .f32⟩
  | 3 => ⟨S16x2048x1024, .f32⟩
  | 4 => ⟨S16x2048x1024, .f32⟩
  | 5 => ⟨S1x1x1024, .f32⟩
  | 6 => ⟨S16x2048x1024, .f32⟩
  | 7 => ⟨S16x2048x1024, .f32⟩
  | 8 => ⟨S1024x4096, .f32⟩
  | 9 => ⟨S16x2048x4096, .f32⟩
  | 10 => ⟨S_, .f32⟩
  | 11 => ⟨S16x2048x4096, .f32⟩
  | 12 => ⟨S16x2048x4096, .f32⟩
  | 13 => ⟨S16x2048x4096, .f32⟩
  | 14 => ⟨S4096x1024, .f32⟩
  | 15 => ⟨S16x2048x1024, .f32⟩
  | 16 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call0_cst : Ref sig .tc := ⟨.hbm, 138, rfl⟩
abbrev main_call0_v0 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩

abbrev nD : Nat := 1
abbrev τ : Topo := Topo.v7x

variable {F : FTy → Type} [FloatOps F]
-- ==== Kernel2.lean ====
abbrev S16x2048 : Shape := ⟨2, ![16, 2048]⟩
abbrev S8 : Shape := ⟨1, ![8]⟩
abbrev S_ : Shape := ⟨0, ![]⟩
abbrev S16x1x2048 : Shape := ⟨3, ![16, 1, 2048]⟩
abbrev S8x1 : Shape := ⟨2, ![8, 1]⟩
abbrev S16x8x2048 : Shape := ⟨3, ![16, 8, 2048]⟩
abbrev S1x1x2048 : Shape := ⟨3, ![1, 1, 2048]⟩
abbrev S1x8x2048 : Shape := ⟨3, ![1, 8, 2048]⟩
abbrev S1x2048 : Shape := ⟨2, ![1, 2048]⟩
abbrev S8x2048 : Shape := ⟨2, ![8, 2048]⟩

abbrev nBuf : Space → Nat
  | .hbm => 16
  | .vmem => 7
  | .smem => 0
  | _ => 0

abbrev bufTy : (tb : Table) → Fin (tcTables nBuf tb) → BufTy
  | .hbm, ⟨0, _⟩ => ⟨S16x2048, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S16x1x2048, .i32⟩
  | .hbm, ⟨13, _⟩ => ⟨S8x1, .f32⟩
  | .hbm, ⟨14, _⟩ => ⟨S16x8x2048, .f32⟩
  | .hbm, ⟨15, _⟩ => ⟨S16x8x2048, .f32⟩
  | .local _ .vmem, ⟨0, _⟩ => ⟨S1x1x2048, .i32⟩
  | .local _ .vmem, ⟨1, _⟩ => ⟨S1x1x2048, .i32⟩
  | .local _ .vmem, ⟨2, _⟩ => ⟨S8x1, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16x2048 : Shape := ⟨2, ![16, 2048]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x8x2048 : Shape := ⟨3, ![16, 8, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S16x2048, .f32⟩
  | .hbm, ⟨13, _⟩ => ⟨S16x2048x1, .f32⟩
  | .hbm, ⟨14, _⟩ => ⟨S1x1x8, .f32⟩
  | .hbm, ⟨15, _⟩ => ⟨S16x2048x8, .f32⟩
  | .hbm, ⟨16, _⟩ => ⟨S16x2048x8, .f32⟩
  | .hbm, ⟨17, _⟩ => ⟨S16x2048x8, .f32⟩
  | .hbm, ⟨18, _⟩ => ⟨S16x2048x8, .f32⟩
  | .hbm, ⟨19, _⟩ => ⟨S16x8x2048, .f32⟩
  | .hbm, ⟨20, _⟩ => ⟨S16x2048x8, .f32⟩
  | .hbm, ⟨21, _⟩ => ⟨S16x8x2048, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Proof.Run.lean ====
/- The run of the two calls: the result array ends at what the second call's grid leaves in it, every argument unchanged. -/
module

public import proofs.«01_k».proof.Proof.Gen.KernelIdeal.Frame

@[expose] public section

set_option maxRecDepth 16384

noncomputable section

namespace Cert.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The launch over the program's segments, its last buffer contents read at the result and at every argument. -/
theorem run : θ_run defs (onTc (τ := τ) (main (F := F))) ⟨m, fun _ => 0, ρ⟩ (fun r => ∀ c : Dev nD,
      r.2.mem ((c.tc : Thread nD τ).loc main_v23) = (dat1 (V3 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v23 (by decide))).trans (W4_arr m ρ c 12),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.Tail

end
-- ==== Proof.Spec.lean ====
/- The layer's tail as functions of one row of activations, over the extended reals: the root-mean-square norm, the
   attention head in the reference's order of operations and in the kernel's, and the proof that the two orders agree
   when every score is finite. -/
module

public import Idealize.ShloMosaic.PureOps
public import Idealize.ShloMosaic.Lib.Pointwise

@[expose] public section

noncomputable section

namespace Cert.Tail

open Idealize.ShloMosaic

/-- The norm's small constant. -/
abbrev eps : EReal := Ideal.ofBits .f32 0x358637BD#32

/-- The attention's scale, the word of `128 ** -0.5`. -/
abbrev scale : EReal := Ideal.ofBits .f32 0x3DB504F3#32

/-- A row divided by its root mean square and multiplied by its gain. -/
def rms {n : ℕ} (D : EReal) (g v : Fin n → EReal) (d : Fin n) : EReal :=
  v d * Ideal.rsqrt (Ideal.div (∑ k, v k * v k) D + eps) * g d

/-- The value a row's maximum starts from: minus infinity. -/
abbrev ninf : EReal := Ideal.ofBits .f32 0xFF800000#32

/-- The weight of a score before it is divided by the row's sum. -/
def expW (s : Fin 256 → EReal) (m : Fin 256) : EReal :=
  Ideal.exp (s m - Finset.univ.fold max ninf s)

/-- One output element of a head: the weights divided first. -/
def headR (s v : Fin 256 → EReal) : EReal :=
  ∑ m, v m * Ideal.div (expW s m) (∑ n, expW s n)

/-- One output element of a head: the weighted sum multiplied by the reciprocal. -/
def headK (s v : Fin 256 → EReal) : EReal :=
  (∑ m, expW s m * v m) * Ideal.div 1 (∑ n, expW s n)

/-- The scores, scaled after the dot product. -/
def scoreR (q : Fin 128 → EReal) (k : Fin 256 → Fin 128 → EReal) (m : Fin 256) : EReal :=
  (∑ d, q d * k m d) * scale

/-- The scores of a query scaled beforehand. -/
def scoreK (q : Fin 128 → EReal) (k : Fin 256 → Fin 128 → EReal) (m : Fin 256) : EReal :=
  ∑ d, q d * scale * k m d

/-- The position of element `d` of head `h` in a row of the four heads. -/
def hd (h : Fin 4) (d : Fin 128) : Fin 512 := ⟨h.val * 128 + d.val, by omega⟩

theorem hd_zero (d : Fin 128) : hd 0 d = ⟨d.val, by omega⟩ := Fin.ext (by simp [hd])

/-- The rectified square. -/
def relu2 (a : EReal) : EReal := max a 0 * max a 0

/-- The row before the attention: the residual plus the projected mixer output. -/
def preRow (x mix : Fin 1024 → EReal) (wout : Fin 1024 → Fin 1024 → EReal) (l : Fin 1024) : EReal :=
  x l + ∑ k, mix k * wout k l

/-- A projection of the normalised row. -/
def projRow {p : ℕ} (g v : Fin 1024 → EReal) (w : Fin 1024 → Fin p → EReal) (j : Fin p) : EReal :=
  ∑ k, rms (Ideal.ofBits .f32 0x44800000#32) g v k * w k j

/-- One head's output element, `H` the head's order of operations. -/
def headOut (H : (Fin 128 → EReal) → (Fin 256 → Fin 128 → EReal) → (Fin 256 → EReal) → EReal) (q : Fin 512 → EReal)
    (gq : Fin 128 → EReal) (km vm : Fin 256 → Fin 512 → EReal) (h : Fin 4) (d : Fin 128) : EReal :=
  H (rms (Ideal.ofBits .f32 0x43000000#32) gq fun d => q (hd h d)) (fun m d => km m (hd h d)) (fun m => vm m (hd h d))

/-- The row after the attention: the heads projected and added. -/
def midRow (H : (Fin 128 → EReal) → (Fin 256 → Fin 128 → EReal) → (Fin 256 → EReal) → EReal) (h1 : Fin 1024 → EReal)
    (q : Fin 512 → EReal) (gq : Fin 128 → EReal) (km vm : Fin 256 → Fin 512 → EReal) (wo : Fin 512 → Fin 1024 → EReal)
    (l : Fin 1024) : EReal :=
  h1 l + ∑ h, ∑ d, headOut H q gq km vm h d * wo (hd h d) l

/-- The row after the feed-forward part. -/
def mlpRow (h2 g3 : Fin 1024 → EReal) (up : Fin 1024 → Fin 4096 → EReal) (down : Fin 4096 → Fin 1024 → EReal)
    (l : Fin 1024) : EReal :=
  h2 l + ∑ f, relu2 (projRow g3 h2 up f) * down f l

/-- The layer's tail on one row. -/
def tailRow (H : (Fin 128 → EReal) → (Fin 256 → Fin 128 → EReal) → (Fin 256 → EReal) → EReal) (x mix : Fin 1024 → EReal)
    (wout : Fin 1024 → Fin 1024 → EReal) (g2 : Fin 1024 → EReal) (wq : Fin 1024 → Fin 512 → EReal) (gq : Fin 128 → EReal)
    (km vm : Fin 256 → Fin 512 → EReal) (wo : Fin 512 → Fin 1024 → EReal) (g3 : Fin 1024 → EReal)
    (up : Fin 1024 → Fin 4096 → EReal) (down : Fin 4096 → Fin 1024 → EReal) : Fin 1024 → EReal :=
  mlpRow (midRow H (preRow x mix wout) (projRow g2 (preRow x mix wout) wq) gq km vm wo) g3 up down

/-- The normalised key of a memory row, by head. -/
def memK (mem g : Fin 1024 → EReal) (w : Fin 1024 → Fin 1024 → EReal) (gk : Fin 128 → EReal) (h : Fin 4) (d : Fin 128) :
    EReal :=
  rms (Ideal.ofBits .f32 0x43000000#32) gk (fun d => projRow g mem w ⟨h.val * 128 + d.val, by omega⟩) d

/-- The value of a memory row. -/
def memV (mem g : Fin 1024 → EReal) (w : Fin 1024 → Fin 1024 → EReal) (e : Fin 512) : EReal :=
  projRow g mem w ⟨512 + e.val, by omega⟩

/-- The feed-forward part summed in four chunks of the hidden row. -/
theorem mlpRow_chunks (h2 g3 : Fin 1024 → EReal) (up : Fin 1024 → Fin 4096 → EReal)
    (down : Fin 4096 → Fin 1024 → EReal) (l : Fin 1024) :
    mlpRow h2 g3 up down l
      = h2 l + ∑ j : Fin 1024, relu2 (projRow g3 h2 up ⟨j.val, by omega⟩) * down ⟨j.val, by omega⟩ l
        + ∑ j : Fin 1024, relu2 (projRow g3 h2 up ⟨1024 + j.val, by omega⟩) * down ⟨1024 + j.val, by omega⟩ l
        + ∑ j : Fin 1024, relu2 (projRow g3 h2 up ⟨2048 + j.val, by omega⟩) * down ⟨2048 + j.val, by omega⟩ l
        + ∑ j : Fin 1024, relu2 (projRow g3 h2 up ⟨3072 + j.val, by omega⟩) * down ⟨3072 + j.val, by omega⟩ l := by
  unfold mlpRow
  rw [Fin.sum_univ_tiles 4 1024 rfl, Fin.sum_univ_four]
  simp only [← add_assoc, Fin.val_zero, zero_mul, zero_add]
  rfl

/-! ### Finite values -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  refine ⟨∑ i ∈ s, r i, ?_⟩
  rw [coe_sum]
  exact Finset.sum_congr rfl fun i _ => hr i

theorem scale_real : ∃ c : ℝ, 0 < c ∧ scale = (c : EReal) := by
  refine ⟨_, ?_, by simp [scale, Ideal.ofBits, Ideal.ieee, -EReal.coe_mul]; rfl⟩
  norm_num

theorem eps_real : ∃ c : ℝ, 0 < c ∧ eps = (c : EReal) := by
  refine ⟨_, ?_, by simp [eps, Ideal.ofBits, Ideal.ieee, -EReal.coe_mul]; rfl⟩
  norm_num

theorem ninf_bot : ninf = ⊥ := by
  simp [ninf, Ideal.ofBits, Ideal.ieee]

theorem n128 : Ideal.ofBits .f32 0x43000000#32 = ((128 : ℝ) : EReal) := by
  simp [Ideal.ofBits, Ideal.ieee, -EReal.coe_mul]; norm_num

/-- A finite sum of squares is a real that is not negative, or every square is finite fails and it is `⊤`. -/
theorem sq_sum {n : ℕ} (v : Fin n → EReal) :
    (∃ r : Fin n → ℝ, (∀ k, v k = (r k : EReal)) ∧ ∑ k, v k * v k = ((∑ k, r k * r k : ℝ) : EReal))
      ∨ ∑ k, v k * v k = ⊤ := by
  by_cases h : ∀ k, ∃ r : ℝ, v k = (r : EReal)
  · choose r hr using h
    refine .inl ⟨r, hr, ?_⟩
    rw [coe_sum]
    exact Finset.sum_congr rfl fun k _ => by rw [hr k, EReal.coe_mul]
  · right
    push Not at h
    obtain ⟨k, hk⟩ := h
    have hsq : v k * v k = ⊤ := by
      induction hv : v k using EReal.rec with
      | bot => rfl
      | coe r => exact absurd hv (hk r)
      | top => rfl
    have hnn : ∀ i ∈ Finset.univ, (0 : EReal) ≤ v i * v i := fun i _ => by
      induction hv : v i using EReal.rec with
      | bot => exact le_top
      | coe r => exact_mod_cast mul_self_nonneg r
      | top => exact le_top
    exact top_le_iff.mp (hsq ▸ Finset.single_le_sum hnn (Finset.mem_univ k))

/-- A norm with a finite gain is finite at every row: an infinite entry makes the sum of squares infinite, and the
    reciprocal root of that is zero. -/
theorem rms_real {n : ℕ} {D : ℝ} (hD : 0 < D) (g v : Fin n → EReal) (hg : ∀ d, IsReal (g d)) (d : Fin n) :
    IsReal (rms (D : EReal) g v d) := by
  obtain ⟨e, he, hE⟩ := eps_real
  unfold rms
  refine .mul ?_ (hg d)
  rw [Ideal.div_coe hD.ne', hE]
  rcases sq_sum v with ⟨r, hr, hs⟩ | hs
  · rw [hs, ← EReal.coe_mul, ← EReal.coe_add, hr d]
    have hpos : 0 < (∑ k, r k * r k) * (1 / D) + e :=
      add_pos_of_nonneg_of_pos (mul_nonneg (Finset.sum_nonneg fun k _ => mul_self_nonneg _) (by positivity)) he
    refine .mul ⟨_, rfl⟩ ⟨(Real.sqrt ((∑ k, r k * r k) * (1 / D) + e))⁻¹, ?_⟩
    show (if _ then _ else if _ then _ else _ : EReal) = _
    rw [if_neg hpos.not_gt, if_neg hpos.ne']
  · rw [hs, EReal.top_mul_coe_of_pos (by positivity), EReal.top_add_coe]
    refine ⟨0, ?_⟩
    show v d * 0 = _
    rw [mul_zero]; rfl

/-! ### One head -/

theorem real_mul_sum {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Scaling the query first or the score last is one value. -/
theorem score_eq (q : Fin 128 → EReal) (k : Fin 256 → Fin 128 → EReal) : scoreK q k = scoreR q k := by
  obtain ⟨c, hc, hC⟩ := scale_real
  funext m
  unfold scoreK scoreR
  rw [hC, real_mul_sum _ _ c hc.le]
  exact Finset.sum_congr rfl fun d _ => by rw [mul_assoc, mul_comm (c : EReal), mul_assoc]

theorem fold_max_real {n : ℕ} (r : Fin (n + 1) → ℝ) :
    ∃ M : ℝ, Finset.univ.fold max ⊥ (fun i => (r i : EReal)) = (M : EReal) ∧ ∃ i, r i = M := by
  have hle : ∀ i, (r i : EReal) ≤ Finset.univ.fold max ⊥ (fun i => (r i : EReal)) := fun i =>
    (Finset.le_fold_max _).mpr (.inr ⟨i, Finset.mem_univ i, le_rfl⟩)
  obtain ⟨i, -, hi⟩ := Finset.exists_max_image (Finset.univ : Finset (Fin (n + 1))) r Finset.univ_nonempty
  refine ⟨r i, le_antisymm ?_ (hle i), i, rfl⟩
  exact (Finset.fold_max_le _).mpr ⟨bot_le, fun j hj => by exact_mod_cast hi j hj⟩

/-- At finite scores the weighted sum times the reciprocal is the sum of the divided weights, whatever the values. -/
theorem head_eq (s v : Fin 256 → EReal) (hs : ∀ m, IsReal (s m)) : headK s v = headR s v := by
  choose r hr using hs
  obtain ⟨M, hM, -⟩ := fold_max_real (n := 255) r
  have hw : ∀ m, expW s m = ((Real.exp (r m - M) : ℝ) : EReal) := fun m => by
    unfold expW
    rw [ninf_bot, show s = fun i => (r i : EReal) from funext hr]
    rw [hM, ← EReal.coe_sub]; rfl
  have hS : ∑ n, expW s n = ((∑ n, Real.exp (r n - M) : ℝ) : EReal) := by
    rw [coe_sum]; exact Finset.sum_congr rfl fun n _ => hw n
  have hpos : 0 < ∑ n : Fin 256, Real.exp (r n - M) := Finset.sum_pos (fun n _ => Real.exp_pos _) Finset.univ_nonempty
  unfold headK headR
  rw [hS, Ideal.div_coe hpos.ne', one_mul, real_mul_sum _ _ _ (by positivity)]
  refine Finset.sum_congr rfl fun m _ => ?_
  rw [Ideal.div_coe hpos.ne', mul_comm (expW s m) (v m), mul_assoc]

/-- The kernel's head is the reference's where the query and the keys are finite. -/
theorem attn_eq (q : Fin 128 → EReal) (k : Fin 256 → Fin 128 → EReal) (v : Fin 256 → EReal) (hq : ∀ d, IsReal (q d))
    (hk : ∀ m d, IsReal (k m d)) : headK (scoreK q k) v = headR (scoreR q k) v := by
  rw [score_eq]
  refine head_eq _ _ fun m => ?_
  obtain ⟨c, -, hC⟩ := scale_real
  exact .mul (.sum _ _ fun d => (hq d).mul (hk m d)) ⟨c, hC⟩

/-- The tail with the kernel's heads is the tail with the reference's, where both gains of the heads are finite. -/
theorem tailRow_eq (x mix : Fin 1024 → EReal)
    (wout : Fin 1024 → Fin 1024 → EReal) (g2 : Fin 1024 → EReal) (wq : Fin 1024 → Fin 512 → EReal) (gq : Fin 128 → EReal)
    (km vm : Fin 256 → Fin 512 → EReal) (wo : Fin 512 → Fin 1024 → EReal) (g3 : Fin 1024 → EReal)
    (up : Fin 1024 → Fin 4096 → EReal) (down : Fin 4096 → Fin 1024 → EReal) (hq : ∀ d, IsReal (gq d))
    (hk : ∀ m h d, IsReal (km m (hd h d))) :
    tailRow (fun q k v => headK (scoreK q k) v) x mix wout g2 wq gq km vm wo g3 up down
      = tailRow (fun q k v => headR (scoreR q k) v) x mix wout g2 wq gq km vm wo g3 up down := by
  have hm : midRow (fun q k v => headK (scoreK q k) v) (preRow x mix wout) (projRow g2 (preRow x mix wout) wq) gq km vm wo
      = midRow (fun q k v => headR (scoreR q k) v) (preRow x mix wout) (projRow g2 (preRow x mix wout) wq) gq km vm wo := by
    funext l
    unfold midRow
    refine congrArg (preRow x mix wout l + ·) (Finset.sum_congr rfl fun h _ => Finset.sum_congr rfl fun d _ => ?_)
    refine congrArg (· * wo (hd h d) l) ?_
    exact attn_eq _ _ _ (fun d => n128 ▸ rms_real (by norm_num) _ _ hq d) fun m d => hk m h d
  unfold tailRow
  rw [hm]

theorem memK_real (mem g : Fin 1024 → EReal) (w : Fin 1024 → Fin 1024 → EReal) (gk : Fin 128 → EReal)
    (hg : ∀ d, IsReal (gk d)) (h : Fin 4) (d : Fin 128) : IsReal (memK mem g w gk h d) := by
  unfold memK
  rw [n128]
  exact rms_real (by norm_num) _ _ hg d

end Cert.Tail

end
-- ==== Proof.TailPay.lean ====
/- The payloads of the tail kernel's body read at one row and one column, as the functions of Spec.lean. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.Tail

open Idealize.ShloMosaic Idealize.ShloMosaic.TcCoe
open Cert.KernelIdeal Cert.KernelIdeal.Gen

theorem pay2_at (v0 : Vec Ideal S1x512x1024 .f32) (v2 : Vec Ideal S1x512x1024 .bf16) (v4 : Vec Ideal S1024x1024 .bf16)
    (r : Fin 512) (l : Fin 1024) :
    k1_pay2 v0 v2 v4 (ix2 r l) = v0 (ix3 0 r l) + ∑ k, v2 (ix3 0 r k) * v4 (ix2 k l) := by
  pointwise [k1_pay2]

theorem pay3_at (v0 : Vec Ideal S1x512x1024 .f32) (v2 : Vec Ideal S1x512x1024 .bf16) (v4 : Vec Ideal S1024x1024 .bf16)
    (v8 : Vec Ideal S1x1024 .f32) (v23 : Vec Ideal S1024x512 .bf16) (r : Fin 512) (j : Fin 512) :
    k1_pay3 v0 v2 v4 v8 v23 (ix2 r j)
      = projRow (fun d => v8 (ix2 0 d)) (fun d => k1_pay2 v0 v2 v4 (ix2 r d)) (fun k j => v23 (ix2 k j)) j := by
  pointwise [k1_pay3]
  rfl

/-- The kernel's head. -/
abbrev HK (q : Fin 128 → EReal) (k : Fin 256 → Fin 128 → EReal) (v : Fin 256 → EReal) : EReal := headK (scoreK q k) v

/-- The head's norm, its query and its gain read at an index. -/
abbrev qn (g : Vec Ideal S1x128 .f32) (q : Fin 128 → EReal) : Fin 128 → EReal :=
  rms (Ideal.ofBits .f32 0x43000000#32) (fun d => g (ix2 0 d)) q

theorem head0_at (v0 : Vec Ideal S1x512x1024 .f32) (v2 : Vec Ideal S1x512x1024 .bf16) (v4 : Vec Ideal S1024x1024 .bf16)
    (v8 : Vec Ideal S1x1024 .f32) (v23 : Vec Ideal S1024x512 .bf16) (v27 : Vec Ideal S1x128 .f32)
    (v44 v57 : Vec Ideal S1x256x128 .bf16) (r : Fin 512) (d : Fin 128) :
    k1_pay7 (k1_pay4 v0 v2 v4 v8 v23) (k1_pay5 v27) (k1_pay6 v0 v2 v4 v8 v23) v44 v57 (ix2 r d)
      = HK (qn v27 fun d => k1_pay3 v0 v2 v4 v8 v23 (ix2 r (hd 0 d))) (fun m d => v44 (ix3 0 m d))
          (fun m => v57 (ix3 0 m d)) := by
  simp only [hd_zero]
  pointwise [k1_pay7, k1_pay6, k1_pay5, k1_pay4]
  rfl

theorem head1_at (q : FVec Ideal S512x512 .f32) (g : Vec Ideal S1x128 .f32) (k v : Vec Ideal S1x256x128 .bf16)
    (r : Fin 512) (d : Fin 128) :
    k1_pay10 (k1_pay8 q g) (k1_pay9 (F := Ideal)) k v (ix2 r d)
      = HK (qn g fun d => q (ix2 r (hd 1 d))) (fun m d => k (ix3 0 m d)) (fun m => v (ix3 0 m d)) := by
  pointwise [k1_pay10, k1_pay9, k1_pay8]
  rfl

theorem head2_at (q : FVec Ideal S512x512 .f32) (g : Vec Ideal S1x128 .f32) (k v : Vec Ideal S1x256x128 .bf16)
    (r : Fin 512) (d : Fin 128) :
    k1_pay13 (k1_pay11 q g) (k1_pay12 k) v (ix2 r d)
      = HK (qn g fun d => q (ix2 r (hd 2 d))) (fun m d => k (ix3 0 m d)) (fun m => v (ix3 0 m d)) := by
  pointwise [k1_pay11, k1_pay12, k1_pay13]
  rfl

/-- The last head's exponents. -/
theorem pay14_at (q : FVec Ideal S512x512 .f32) (g : Vec Ideal S1x128 .f32) (k : Vec Ideal S1x256x128 .bf16)
    (r : Fin 512) (m : Fin 256) :
    Ideal.exp (k1_pay14 q g k (ix2 r m))
      = expW (scoreK (qn g fun d => q (ix2 r (hd 3 d))) (fun m d => k (ix3 0 m d))) m := by
  pointwise [k1_pay14]
  rfl

/-- The heads side by side, projected and added: one sum per head. -/
theorem cat_at (v7 : FVec Ideal S512x1024 .f32) (o0 o1 o2 o3 : FVec Ideal S512x128 .f32) (w : FVec Ideal S512x1024 .bf16)
    (O : Fin 4 → Fin 128 → EReal) (r : Fin 512) (h0 : ∀ d, o0 (ix2 r d) = O 0 d) (h1 : ∀ d, o1 (ix2 r d) = O 1 d)
    (h2 : ∀ d, o2 (ix2 r d) = O 2 d) (h3 : ∀ d, o3 (ix2 r d) = O 3 d) (l : Fin 1024) :
    addf v7 (matmul dot_S512x512_S512x1024_S512x1024_1_0_0_1_n_n none
      (truncf .bf16 (concatenate S512x512 1 [⟨S512x128, o0⟩, ⟨S512x128, o1⟩, ⟨S512x128, o2⟩, ⟨S512x128, o3⟩]
        concatenates_S512x128_S512x128_S512x128_S512x128_S512x512_d1 : FVec Ideal S512x512 .f32) bitsLt_bf16_f32)
      (shapeCast S512x1024 w shapeCasts_S512x1024_S512x1024 : FVec Ideal S512x1024 .bf16) (constant S512x1024 .f32 0x00000000#32)) (ix2 r l)
      = v7 (ix2 r l) + ∑ h, ∑ d, O h d * w (ix2 (hd h d) l) := by
  pointwise
  rw [Fin.sum_univ_tiles 4 128 rfl]
  simp only [Fin.sum_univ_four]
  refine congrArg (v7 (ix2 r l) + ·) (congrArg₂ (· + ·) (congrArg₂ (· + ·) (congrArg₂ (· + ·) ?_ ?_) ?_) ?_) <;>
    refine Finset.sum_congr rfl fun d _ => congrArg₂ (· * ·) ?_ rfl
  · refine (dif_pos (show 0 * 128 + d.val < 128 by omega)).trans (Eq.trans ?_ (h0 d))
    exact congrArg o0 (congrArg (ix2 r) (Fin.ext (show 0 * 128 + d.val = d.val by omega)))
  · refine (dif_neg (show ¬ 1 * 128 + d.val < 128 by omega)).trans
      ((dif_pos (show 1 * 128 + d.val - 128 < 128 by omega)).trans (Eq.trans ?_ (h1 d)))
    exact congrArg o1 (congrArg (ix2 r) (Fin.ext (show 1 * 128 + d.val - 128 = d.val by omega)))
  · refine (dif_neg (show ¬ 2 * 128 + d.val < 128 by omega)).trans
      ((dif_neg (show ¬ 2 * 128 + d.val - 128 < 128 by omega)).trans
        ((dif_pos (show 2 * 128 + d.val - 128 - 128 < 128 by omega)).trans (Eq.trans ?_ (h2 d))))
    exact congrArg o2 (congrArg (ix2 r) (Fin.ext (show 2 * 128 + d.val - 128 - 128 = d.val by omega)))
  · refine (dif_neg (show ¬ 3 * 128 + d.val < 128 by omega)).trans
      ((dif_neg (show ¬ 3 * 128 + d.val - 128 < 128 by omega)).trans
        ((dif_neg (show ¬ 3 * 128 + d.val - 128 - 128 < 128 by omega)).trans (Eq.trans ?_ (h3 d))))
    exact congrArg o3 (congrArg (ix2 r) (Fin.ext (show 3 * 128 + d.val - 128 - 128 - 128 = d.val by omega)))

theorem pay15_at (v7 : FVec Ideal S512x1024 .f32) (v61 v97 v133 : FVec Ideal S512x128 .f32) (q : FVec Ideal S512x512 .f32)
    (g : Vec Ideal S1x128 .f32) (k v : Vec Ideal S1x256x128 .bf16) (v172 : Vec Ideal S512x1024 .bf16)
    (O : Fin 4 → Fin 128 → EReal) (r : Fin 512)
    (h0 : ∀ d, v61 (ix2 r d) = O 0 d) (h1 : ∀ d, v97 (ix2 r d) = O 1 d) (h2 : ∀ d, v133 (ix2 r d) = O 2 d)
    (h3 : ∀ d, HK (qn g fun d => q (ix2 r (hd 3 d))) (fun m d => k (ix3 0 m d)) (fun m => v (ix3 0 m d)) = O 3 d)
    (l : Fin 1024) :
    k1_pay15 v7 v61 v97 v133 (k1_pay14 q g k) v v172 (ix2 r l)
      = v7 (ix2 r l) + ∑ h, ∑ d, O h d * v172 (ix2 (hd h d) l) := by
  unfold k1_pay15
  refine cat_at v7 v61 v97 v133 _ v172 O r h0 h1 h2 (fun d => ?_) l
  rw [← h3]
  pointwise
  simp only [pay14_at]
  rfl

theorem pay16_at (v7 : FVec Ideal S512x1024 .f32) (v61 v97 v133 : FVec Ideal S512x128 .f32) (v158 : FVec Ideal S512x256 .f32)
    (v165 : Vec Ideal S1x256x128 .bf16) (v172 : Vec Ideal S512x1024 .bf16) (v176 : Vec Ideal S1x1024 .f32)
    (r : Fin 512) (l : Fin 1024) :
    k1_pay16 v7 v61 v97 v133 v158 v165 v172 v176 (ix2 r l)
      = rms (Ideal.ofBits .f32 0x44800000#32) (fun d => v176 (ix2 0 d))
          (fun d => k1_pay15 v7 v61 v97 v133 v158 v165 v172 (ix2 r d)) l := by
  pointwise [k1_pay16]
  rfl

theorem pay17_at (v7 : FVec Ideal S512x1024 .f32) (v61 v97 v133 : FVec Ideal S512x128 .f32) (v158 : FVec Ideal S512x256 .f32)
    (v165 : Vec Ideal S1x256x128 .bf16) (v172 : Vec Ideal S512x1024 .bf16) (v176 : Vec Ideal S1x1024 .f32)
    (v191 : Vec Ideal S1024x1024 .bf16) (r : Fin 512) (j : Fin 1024) :
    k1_pay17 v7 v61 v97 v133 v158 v165 v172 v176 v191 (ix2 r j)
      = relu2 (∑ k, k1_pay16 v7 v61 v97 v133 v158 v165 v172 v176 (ix2 r k) * v191 (ix2 k j)) := by
  pointwise [k1_pay17]
  rfl

theorem pay18_at (v175 : FVec Ideal S512x1024 .f32) (v190 v197 : FVec Ideal S512x1024 .bf16)
    (d0 u1 d1 u2 d2 u3 d3 : Vec Ideal S1024x1024 .bf16) (r : Fin 512) (l : Fin 1024) :
    k1_pay18 v175 v190 v197 d0 u1 d1 u2 d2 u3 d3 (ix2 r l)
      = v175 (ix2 r l) + ∑ j, v197 (ix2 r j) * d0 (ix2 j l)
        + ∑ j, relu2 (∑ k, v190 (ix2 r k) * u1 (ix2 k j)) * d1 (ix2 j l)
        + ∑ j, relu2 (∑ k, v190 (ix2 r k) * u2 (ix2 k j)) * d2 (ix2 j l)
        + ∑ j, relu2 (∑ k, v190 (ix2 r k) * u3 (ix2 k j)) * d3 (ix2 j l) := by
  pointwise [k1_pay18]
  rfl

/-! ### The memory kernel's payloads -/

theorem kv_at (x0 : Vec Ideal S1x256x1024 .f32) (x1 : Vec Ideal S1x1024 .f32) (x2 : Vec Ideal S1024x1024 .bf16)
    (r : Fin 256) (j : Fin 1024) :
    k0_pay3 x0 x1 x2 (ix2 r j)
      = projRow (fun d => x1 (ix2 0 d)) (fun d => x0 (ix3 0 r d)) (fun k j => x2 (ix2 k j)) j := by
  pointwise [k0_pay3]
  rfl

theorem key0_at (x0 : Vec Ideal S1x256x1024 .f32) (x1 : Vec Ideal S1x1024 .f32) (x2 : Vec Ideal S1024x1024 .bf16)
    (g : Vec Ideal S1x128 .f32) (r : Fin 256) (d : Fin 128) :
    k0_pay4 x0 x1 x2 g (ix3 0 r d) = qn g (fun d => k0_pay3 x0 x1 x2 (ix2 r ⟨d.val, by omega⟩)) d := by
  pointwise [k0_pay4]
  rfl

theorem key1_at (kv : FVec Ideal S256x1024 .f32) (g : Vec Ideal S1x128 .f32) (r : Fin 256) (d : Fin 128) :
    k0_pay5 kv g (ix3 0 r d) = qn g (fun d => kv (ix2 r ⟨128 + d.val, by omega⟩)) d := by
  pointwise [k0_pay5]
  rfl

theorem key2_at (kv : FVec Ideal S256x1024 .f32) (g : Vec Ideal S1x128 .f32) (r : Fin 256) (d : Fin 128) :
    k0_pay6 kv g (ix3 0 r d) = qn g (fun d => kv (ix2 r ⟨256 + d.val, by omega⟩)) d := by
  pointwise [k0_pay6]
  rfl

theorem key3_at (kv : FVec Ideal S256x1024 .f32) (g : Vec Ideal S1x128 .f32) (r : Fin 256) (d : Fin 128) :
    k0_pay1 (k0_pay7 kv) g (ix3 0 r d) = qn g (fun d => kv (ix2 r ⟨384 + d.val, by omega⟩)) d := by
  pointwise [k0_pay1, k0_pay7]
  rfl

theorem val_at (kv : FVec Ideal S256x1024 .f32) (r : Fin 256) (e : Fin 512) :
    k0_pay2 kv (ix3 0 r e) = kv (ix2 r ⟨512 + e.val, by omega⟩) := by
  pointwise [k0_pay2]

end Cert.Tail

end
-- ==== Proof.KernelOut.lean ====
/- What each kernel's body leaves in its output block, read at one row and one column. -/
module

public import proofs.«01_k».proof.Proof.Gen.KernelIdeal.Frame
public import proofs.«01_k».proof.Proof.TailPay

@[expose] public section

set_option maxRecDepth 16384

noncomputable section

namespace Cert.Tail

open Idealize.ShloMosaic Idealize.ShloMosaic.TcCoe Idealize.SL.Sem
open Cert.KernelIdeal Cert.KernelIdeal.Gen

theorem ldh0 (x : Vec Ideal S1x256x512 .bf16) (m : Fin 256) (d : Fin 128) :
    View.ld x r1_5 (ix3 0 m d) = x (ix3 0 m (hd 0 d)) := by
  refine View.ld_unit_apply_of x _ _ _ _ _ fun a => ?_
  fin_cases a
  · rfl
  · show m.val = 0 + m.val; omega
  · show 0 * 128 + d.val = 0 + d.val; omega

theorem ldh1 (x : Vec Ideal S1x256x512 .bf16) (m : Fin 256) (d : Fin 128) :
    View.ld x r1_6 (ix3 0 m d) = x (ix3 0 m (hd 1 d)) := by
  refine View.ld_unit_apply_of x _ _ _ _ _ fun a => ?_
  fin_cases a
  · rfl
  · show m.val = 0 + m.val; omega
  · show 1 * 128 + d.val = 128 + d.val; omega

theorem ldh2 (x : Vec Ideal S1x256x512 .bf16) (m : Fin 256) (d : Fin 128) :
    View.ld x r1_7 (ix3 0 m d) = x (ix3 0 m (hd 2 d)) := by
  refine View.ld_unit_apply_of x _ _ _ _ _ fun a => ?_
  fin_cases a
  · rfl
  · show m.val = 0 + m.val; omega
  · show 2 * 128 + d.val = 256 + d.val; omega

theorem ldh3 (x : Vec Ideal S1x256x512 .bf16) (m : Fin 256) (d : Fin 128) :
    View.ld x r1_8 (ix3 0 m d) = x (ix3 0 m (hd 3 d)) := by
  refine View.ld_unit_apply_of x _ _ _ _ _ fun a => ?_
  fin_cases a
  · rfl
  · show m.val = 0 + m.val; omega
  · show 3 * 128 + d.val = 384 + d.val; omega

theorem ldu0 (x : Vec Ideal S1024x4096 .bf16) (k j : Fin 1024) :
    View.ld x r1_10 (ix2 k j) = x (ix2 k ⟨j.val, by omega⟩) := by
  refine View.ld_unit_apply_of x _ _ _ _ _ fun a => ?_
  fin_cases a
  · show k.val = 0 + k.val; omega
  · show j.val = 0 + j.val; omega

theorem ldd0 (x : Vec Ideal S4096x1024 .bf16) (j l : Fin 1024) :
    View.ld x r1_11 (ix2 j l) = x (ix2 ⟨j.val, by omega⟩ l) := by
  refine View.ld_unit_apply_of x _ _ _ _ _ fun a => ?_
  fin_cases a
  · show j.val = 0 + j.val; omega
  · show l.val = 0 + l.val; omega

theorem ldu1 (x : Vec Ideal S1024x4096 .bf16) (k j : Fin 1024) :
    View.ld x r1_12 (ix2 k j) = x (ix2 k ⟨1024 + j.val, by omega⟩) := by
  refine View.ld_unit_apply_of x _ _ _ _ _ fun a => ?_
  fin_cases a
  · show k.val = 0 + k.val; omega
  · show 1024 + j.val = 1024 + j.val; omega

theorem ldd1 (x : Vec Ideal S4096x1024 .bf16) (j l : Fin 1024) :
    View.ld x r1_13 (ix2 j l) = x (ix2 ⟨1024 + j.val, by omega⟩ l) := by
  refine View.ld_unit_apply_of x _ _ _ _ _ fun a => ?_
  fin_cases a
  · show 1024 + j.val = 1024 + j.val; omega
  · show l.val = 0 + l.val; omega

theorem ldu2 (x : Vec Ideal S1024x4096 .bf16) (k j : Fin 1024) :
    View.ld x r1_14 (ix2 k j) = x (ix2 k ⟨2048 + j.val, by omega⟩) := by
  refine View.ld_unit_apply_of x _ _ _ _ _ fun a => ?_
  fin_cases a
  · show k.val = 0 + k.val; omega
  · show 2048 + j.val = 2048 + j.val; omega

theorem ldd2 (x : Vec Ideal S4096x1024 .bf16) (j l : Fin 1024) :
    View.ld x r1_15 (ix2 j l) = x (ix2 ⟨2048 + j.val, by omega⟩ l) := by
  refine View.ld_unit_apply_of x _ _ _ _ _ fun a => ?_
  fin_cases a
  · show 2048 + j.val = 2048 + j.val; omega
  · show l.val = 0 + l.val; omega

theorem ldu3 (x : Vec Ideal S1024x4096 .bf16) (k j : Fin 1024) :
    View.ld x r1_16 (ix2 k j) = x (ix2 k ⟨3072 + j.val, by omega⟩) := by
  refine View.ld_unit_apply_of x _ _ _ _ _ fun a => ?_
  fin_cases a
  · show k.val = 0 + k.val; omega
  · show 3072 + j.val = 3072 + j.val; omega

theorem ldd3 (x : Vec Ideal S4096x1024 .bf16) (j l : Fin 1024) :
    View.ld x r1_17 (ix2 j l) = x (ix2 ⟨3072 + j.val, by omega⟩ l) := by
  refine View.ld_unit_apply_of x _ _ _ _ _ fun a => ?_
  fin_cases a
  · show 3072 + j.val = 3072 + j.val; omega
  · show l.val = 0 + l.val; omega

theorem pay1_at (v : FVec Ideal S512x1024 .f32) (r : Fin 512) (l : Fin 1024) : k1_pay1 v (ix3 0 r l) = v (ix2 r l) := by
  pointwise [k1_pay1]

/-- The feed-forward network on a row of the residual, its weights read in four chunks. -/
theorem mlp_at (v7 : FVec Ideal S512x1024 .f32) (v61 v97 v133 : FVec Ideal S512x128 .f32) (v158 : FVec Ideal S512x256 .f32)
    (v165 : Vec Ideal S1x256x128 .bf16) (v172 : Vec Ideal S512x1024 .bf16) (v176 : Vec Ideal S1x1024 .f32)
    (x10 : Vec Ideal S1024x4096 .bf16) (x11 : Vec Ideal S4096x1024 .bf16) (u0 u1 u2 u3 d0 d1 d2 d3 : Vec Ideal S1024x1024 .bf16)
    (hu0 : ∀ k j : Fin 1024, u0 (ix2 k j) = x10 (ix2 k ⟨j.val, by omega⟩))
    (hd0 : ∀ j l : Fin 1024, d0 (ix2 j l) = x11 (ix2 ⟨j.val, by omega⟩ l))
    (hu1 : ∀ k j : Fin 1024, u1 (ix2 k j) = x10 (ix2 k ⟨1024 + j.val, by omega⟩))
    (hd1 : ∀ j l : Fin 1024, d1 (ix2 j l) = x11 (ix2 ⟨1024 + j.val, by omega⟩ l))
    (hu2 : ∀ k j : Fin 1024, u2 (ix2 k j) = x10 (ix2 k ⟨2048 + j.val, by omega⟩))
    (hd2 : ∀ j l : Fin 1024, d2 (ix2 j l) = x11 (ix2 ⟨2048 + j.val, by omega⟩ l))
    (hu3 : ∀ k j : Fin 1024, u3 (ix2 k j) = x10 (ix2 k ⟨3072 + j.val, by omega⟩))
    (hd3 : ∀ j l : Fin 1024, d3 (ix2 j l) = x11 (ix2 ⟨3072 + j.val, by omega⟩ l))
    (r : Fin 512) (l : Fin 1024) :
    k1_pay18 (k1_pay15 v7 v61 v97 v133 v158 v165 v172) (k1_pay16 v7 v61 v97 v133 v158 v165 v172 v176)
        (k1_pay17 v7 v61 v97 v133 v158 v165 v172 v176 u0) d0 u1 d1 u2 d2 u3 d3 (ix2 r l)
      = mlpRow (fun d => k1_pay15 v7 v61 v97 v133 v158 v165 v172 (ix2 r d)) (fun d => v176 (ix2 0 d))
          (fun k f => x10 (ix2 k f)) (fun f l => x11 (ix2 f l)) l := by
  rw [pay18_at, mlpRow_chunks]
  simp only [projRow, pay17_at, hu0, hu1, hu2, hu3, hd0, hd1, hd2, hd3]
  have h := fun k => pay16_at v7 v61 v97 v133 v158 v165 v172 v176 r k
  generalize k1_pay16 v7 v61 v97 v133 v158 v165 v172 v176 = P at h ⊢
  simp only [h]

/-- The tail's block: every row the tail of that row. -/
theorem out1_12_at (x0 : Vec Ideal S1x512x1024 .f32) (x1 : Vec Ideal S1x512x1024 .bf16) (x2 : Vec Ideal S1024x1024 .bf16)
    (x3 : Vec Ideal S1x1024 .f32) (x4 : Vec Ideal S1024x512 .bf16) (x5 : Vec Ideal S1x128 .f32)
    (x6 x7 : Vec Ideal S1x256x512 .bf16) (x8 : Vec Ideal S512x1024 .bf16) (x9 : Vec Ideal S1x1024 .f32)
    (x10 : Vec Ideal S1024x4096 .bf16) (x11 : Vec Ideal S4096x1024 .bf16) (r : Fin 512) (l : Fin 1024) :
    out1_12 x0 x1 x2 x3 x4 x5 x6 x7 x8 x9 x10 x11 (ix3 0 r l)
      = tailRow HK (fun k => x0 (ix3 0 r k)) (fun k => x1 (ix3 0 r k)) (fun k l => x2 (ix2 k l)) (fun d => x3 (ix2 0 d))
          (fun k j => x4 (ix2 k j)) (fun d => x5 (ix2 0 d)) (fun m e => x6 (ix3 0 m e)) (fun m e => x7 (ix3 0 m e))
          (fun e l => x8 (ix2 e l)) (fun d => x9 (ix2 0 d)) (fun k f => x10 (ix2 k f)) (fun f l => x11 (ix2 f l)) l := by
  have hpre : (fun d => k1_pay2 x0 x1 x2 (ix2 r d))
      = preRow (fun k => x0 (ix3 0 r k)) (fun k => x1 (ix3 0 r k)) (fun k l => x2 (ix2 k l)) :=
    funext fun d => pay2_at x0 x1 x2 r d
  have hq : ∀ j, k1_pay3 x0 x1 x2 x3 x4 (ix2 r j)
      = projRow (fun d => x3 (ix2 0 d)) (preRow (fun k => x0 (ix3 0 r k)) (fun k => x1 (ix3 0 r k)) fun k l => x2 (ix2 k l))
          (fun k j => x4 (ix2 k j)) j := fun j => by rw [pay3_at, hpre]
  have hmid : (fun d => k1_pay15 (k1_pay2 x0 x1 x2)
          (k1_pay7 (k1_pay4 x0 x1 x2 x3 x4) (k1_pay5 x5) (k1_pay6 x0 x1 x2 x3 x4) (View.ld x6 r1_5) (View.ld x7 r1_5))
          (k1_pay10 (k1_pay8 (k1_pay3 x0 x1 x2 x3 x4) x5) (k1_pay9 (F := Ideal)) (View.ld x6 r1_6) (View.ld x7 r1_6))
          (k1_pay13 (k1_pay11 (k1_pay3 x0 x1 x2 x3 x4) x5) (k1_pay12 (View.ld x6 r1_7)) (View.ld x7 r1_7))
          (k1_pay14 (k1_pay3 x0 x1 x2 x3 x4) x5 (View.ld x6 r1_8)) (View.ld x7 r1_8) x8 (ix2 r d))
      = midRow HK (preRow (fun k => x0 (ix3 0 r k)) (fun k => x1 (ix3 0 r k)) fun k l => x2 (ix2 k l))
          (projRow (fun d => x3 (ix2 0 d)) (preRow (fun k => x0 (ix3 0 r k)) (fun k => x1 (ix3 0 r k)) fun k l => x2 (ix2 k l))
            (fun k j => x4 (ix2 k j))) (fun d => x5 (ix2 0 d)) (fun m e => x6 (ix3 0 m e)) (fun m e => x7 (ix3 0 m e))
          (fun e l => x8 (ix2 e l)) := funext fun d => by
    refine (pay15_at _ _ _ _ _ _ _ _ _ (headOut HK (projRow (fun d => x3 (ix2 0 d))
        (preRow (fun k => x0 (ix3 0 r k)) (fun k => x1 (ix3 0 r k)) fun k l => x2 (ix2 k l)) (fun k j => x4 (ix2 k j)))
        (fun d => x5 (ix2 0 d)) (fun m e => x6 (ix3 0 m e)) (fun m e => x7 (ix3 0 m e))) r
      (fun d => ?_) (fun d => ?_) (fun d => ?_) (fun d => ?_) d).trans (congrArg (· + _) (congrFun hpre d))
    · rw [head0_at]; simp only [hq]
      exact congr (congrArg (HK _) (funext fun m => funext fun d => ldh0 x6 m d)) (funext fun m => ldh0 x7 m d)
    · rw [head1_at]; simp only [hq]
      exact congr (congrArg (HK _) (funext fun m => funext fun d => ldh1 x6 m d)) (funext fun m => ldh1 x7 m d)
    · rw [head2_at]; simp only [hq]
      exact congr (congrArg (HK _) (funext fun m => funext fun d => ldh2 x6 m d)) (funext fun m => ldh2 x7 m d)
    · simp only [hq]
      exact congr (congrArg (HK _) (funext fun m => funext fun d => ldh3 x6 m d)) (funext fun m => ldh3 x7 m d)
  unfold_out out1_12
  frame_out
  rw [pay1_at]
  refine (mlp_at _ _ _ _ _ _ _ _ x10 x11 _ _ _ _ _ _ _ _ (ldu0 x10) (ldd0 x11) (ldu1 x10) (ldd1 x11) (ldu2 x10) (ldd2 x11) (ldu3 x10) (ldd3 x11) r l).trans ?_
  rw [hmid]
  rfl

theorem out0_5_at (x0 : Vec Ideal S1x256x1024 .f32) (x1 : Vec Ideal S1x1024 .f32) (x2 : Vec Ideal S1024x1024 .bf16)
    (x3 : Vec Ideal S1x128 .f32) (r : Fin 256) (e : Fin 512) :
    out0_5 x0 x1 x2 x3 (ix3 0 r e)
      = memV (fun k => x0 (ix3 0 r k)) (fun d => x1 (ix2 0 d)) (fun k j => x2 (ix2 k j)) e := by
  unfold_out out0_5
  frame_out
  rw [val_at, kv_at]
  rfl

theorem out0_4_at (x0 : Vec Ideal S1x256x1024 .f32) (x1 : Vec Ideal S1x1024 .f32) (x2 : Vec Ideal S1024x1024 .bf16)
    (x3 : Vec Ideal S1x128 .f32) (r : Fin 256) (h : Fin 4) (d : Fin 128) :
    out0_4 x0 x1 x2 x3 (ix3 0 r (hd h d))
      = memK (fun k => x0 (ix3 0 r k)) (fun d => x1 (ix2 0 d)) (fun k j => x2 (ix2 k j)) (fun d => x3 (ix2 0 d)) h d := by
  unfold_out out0_4
  frame_out
  canon_tiles x hh
  · have h1 : r.val = (x 1).val := hh1
    have h2 : h.val * 128 + d.val = 384 + (x 2).val := hh2
    obtain rfl : h = 3 := Fin.ext (by show h.val = 3; omega)
    obtain rfl : x = ix3 0 r d := funext fun a => Fin.ext (by
      fin_cases a
      · show (x 0).val = 0; omega
      · exact h1.symm
      · show (x 2).val = d.val; simp at h2; omega)
    rw [key3_at]
    simp only [kv_at]
    rfl
  · have h1 : r.val = (x 1).val := hh1
    have h2 : h.val * 128 + d.val = 256 + (x 2).val := hh2
    obtain rfl : h = 2 := Fin.ext (by show h.val = 2; omega)
    obtain rfl : x = ix3 0 r d := funext fun a => Fin.ext (by
      fin_cases a
      · show (x 0).val = 0; omega
      · exact h1.symm
      · show (x 2).val = d.val; simp at h2; omega)
    rw [key2_at]
    simp only [kv_at]
    rfl
  · have h1 : r.val = (x 1).val := hh1
    have h2 : h.val * 128 + d.val = 128 + (x 2).val := hh2
    obtain rfl : h = 1 := Fin.ext (by show h.val = 1; omega)
    obtain rfl : x = ix3 0 r d := funext fun a => Fin.ext (by
      fin_cases a
      · show (x 0).val = 0; omega
      · exact h1.symm
      · show (x 2).val = d.val; simp at h2; omega)
    rw [key1_at]
    simp only [kv_at]
    rfl
  · have h1 : r.val = (x 1).val := hh1
    have h2 : h.val * 128 + d.val = (x 2).val := hh2
    obtain rfl : h = 0 := Fin.ext (by show h.val = 0; omega)
    obtain rfl : x = ix3 0 r d := funext fun a => Fin.ext (by
      fin_cases a
      · show (x 0).val = 0; omega
      · exact h1.symm
      · show (x 2).val = d.val; simp at h2; omega)
    rw [key0_at]
    simp only [kv_at]
    have e : (fun d : Fin 128 => (⟨d.val, by omega⟩ : Fin 1024)) = fun d => ⟨(0 : Fin 4).val * 128 + d.val, by omega⟩ :=
      funext fun d => Fin.ext (by show d.val = 0 * 128 + d.val; omega)
    exact congrArg (fun f : Fin 128 → Fin 1024 => qn x3 (fun d => projRow (fun d => x1 (ix2 0 d)) (fun d => x0 (ix3 0 r d))
      (fun k j => x2 (ix2 k j)) (f d)) d) e

end Cert.Tail

end
-- ==== Proof.Final.lean ====
/- What each kernel's output arrays hold after its grid: every block is written back once, so an array is read row by row. -/
module

public import proofs.«01_k».proof.Proof.KernelOut
public import Idealize.ShloMosaic.Lib.Pipeline.ValueKit

@[expose] public section

set_option maxRecDepth 16384

noncomputable section

namespace Cert.Tail

open Idealize.ShloMosaic Idealize.ShloMosaic.TcCoe Idealize.SL.Sem
open Idealize.ShloMosaic.Pipeline (Dat)
open Cert.KernelIdeal Cert.KernelIdeal.Gen

theorem idx0 : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

theorem idx1_0 : ∀ t : Fin cfg1.N, win1_0.index t = ![t.val / 4, t.val % 4, 0] :=
  (by decide +kernel : ∀ t : Fin grid1.N, _)

theorem idx1_1 : ∀ t : Fin cfg1.N, win1_1.index t = ![t.val / 4, t.val % 4, 0] :=
  (by decide +kernel : ∀ t : Fin grid1.N, _)

theorem idx1_2 : ∀ t : Fin cfg1.N, win1_2.index t = ![0, 0] :=
  (by decide +kernel : ∀ t : Fin grid1.N, _)

theorem idx1_3 : ∀ t : Fin cfg1.N, win1_3.index t = ![0, 0] :=
  (by decide +kernel : ∀ t : Fin grid1.N, _)

theorem idx1_4 : ∀ t : Fin cfg1.N, win1_4.index t = ![0, 0] :=
  (by decide +kernel : ∀ t : Fin grid1.N, _)

theorem idx1_5 : ∀ t : Fin cfg1.N, win1_5.index t = ![0, 0] :=
  (by decide +kernel : ∀ t : Fin grid1.N, _)

theorem idx1_6 : ∀ t : Fin cfg1.N, win1_6.index t = ![t.val / 4, 0, 0] :=
  (by decide +kernel : ∀ t : Fin grid1.N, _)

theorem idx1_7 : ∀ t : Fin cfg1.N, win1_7.index t = ![t.val / 4, 0, 0] :=
  (by decide +kernel : ∀ t : Fin grid1.N, _)

theorem idx1_8 : ∀ t : Fin cfg1.N, win1_8.index t = ![0, 0] :=
  (by decide +kernel : ∀ t : Fin grid1.N, _)

theorem idx1_9 : ∀ t : Fin cfg1.N, win1_9.index t = ![0, 0] :=
  (by decide +kernel : ∀ t : Fin grid1.N, _)

theorem idx1_10 : ∀ t : Fin cfg1.N, win1_10.index t = ![0, 0] :=
  (by decide +kernel : ∀ t : Fin grid1.N, _)

theorem idx1_11 : ∀ t : Fin cfg1.N, win1_11.index t = ![0, 0] :=
  (by decide +kernel : ∀ t : Fin grid1.N, _)

theorem idx1_12 : ∀ t : Fin cfg1.N, win1_12.index t = ![t.val / 4, t.val % 4, 0] :=
  (by decide +kernel : ∀ t : Fin grid1.N, _)

theorem memK_congr {mem mem' g g' : Fin 1024 → EReal} {w w' : Fin 1024 → Fin 1024 → EReal} {gk gk' : Fin 128 → EReal}
    {h h' : Fin 4} {d d' : Fin 128} (e1 : mem = mem') (e2 : g = g') (e3 : w = w') (e4 : gk = gk') (e5 : h = h') (e6 : d = d') :
    memK mem g w gk h d = memK mem' g' w' gk' h' d' := by
  subst e1 e2 e3 e4 e5 e6; rfl

theorem memV_congr {mem mem' g g' : Fin 1024 → EReal} {w w' : Fin 1024 → Fin 1024 → EReal}
    {e e' : Fin 512} (e1 : mem = mem') (e2 : g = g') (e3 : w = w') (e5 : e = e') :
    memV mem g w e = memV mem' g' w' e' := by
  subst e1 e2 e3 e5; rfl

theorem tailRow_congr {H} {x x' mix mix' : Fin 1024 → EReal} {wout wout' : Fin 1024 → Fin 1024 → EReal}
    {g2 g2' : Fin 1024 → EReal} {wq wq' : Fin 1024 → Fin 512 → EReal} {gq gq' : Fin 128 → EReal}
    {km km' vm vm' : Fin 256 → Fin 512 → EReal} {wo wo' : Fin 512 → Fin 1024 → EReal} {g3 g3' : Fin 1024 → EReal}
    {up up' : Fin 1024 → Fin 4096 → EReal} {dn dn' : Fin 4096 → Fin 1024 → EReal} {l l' : Fin 1024}
    (e1 : x = x') (e2 : mix = mix') (e3 : wout = wout') (e4 : g2 = g2') (e5 : wq = wq') (e6 : gq = gq') (e7 : km = km')
    (e8 : vm = vm') (e9 : wo = wo') (e10 : g3 = g3') (e11 : up = up') (e12 : dn = dn') (e13 : l = l') :
    tailRow H x mix wout g2 wq gq km vm wo g3 up dn l = tailRow H x' mix' wout' g2' wq' gq' km' vm' wo' g3' up' dn' l' := by
  subst e1 e2 e3 e4 e5 e6 e7 e8 e9 e10 e11 e12 e13; rfl

variable (V : (c : Dev nD) → (b : Ref sig .tc) → Buf (Elt Ideal) ((c : Thread nD τ).loc b)) (c : Dev nD)

/-- The memory's values after the first call, every row at once. -/
def VMEM (mem : Vec Ideal S16x256x1024 .f32) (g : Vec Ideal S1x1024 .f32) (w : Vec Ideal S1024x1024 .bf16) :
    Vec Ideal S16x256x512 .bf16 := fun i =>
  memV (fun k => mem (ix3 (i 0) (i 1) k)) (fun d => g (ix2 0 d)) (fun k j => w (ix2 k j)) (i 2)

/-- The memory's keys after the first call: column `128 h + d` is head `h`'s coordinate `d`. -/
def KMEM (mem : Vec Ideal S16x256x1024 .f32) (g : Vec Ideal S1x1024 .f32) (w : Vec Ideal S1024x1024 .bf16)
    (gk : Vec Ideal S1x128 .f32) : Vec Ideal S16x256x512 .bf16 := fun i =>
  memK (fun k => mem (ix3 (i 0) (i 1) k)) (fun d => g (ix2 0 d)) (fun k j => w (ix2 k j)) (fun d => gk (ix2 0 d))
    ⟨(i 2).val / 128, Nat.div_lt_of_lt_mul (i 2).isLt⟩ ⟨(i 2).val % 128, Nat.mod_lt _ (by decide)⟩

theorem final0_5 : (dat0 V c).arrAt 5 cfg0.N = VMEM (V c main_arg2) (V c main_v1) (V c main_v3) := by
  refine (dat0 V c).arrAt_eq_of_covers 5 _ (by decide +kernel) fun t _ y => ?_
  blk_simp
  rw [after0_5]
  obtain ⟨r, e, rfl⟩ : ∃ (r : Fin 256) (e : Fin 512), y = ix3 0 r e :=
    ⟨y 1, y 2, funext fun a => by fin_cases a <;> first | rfl | exact Fin.ext (Nat.lt_one_iff.mp (show (y 0).val < 1 from (y 0).isLt))⟩
  refine (out0_5_at _ _ _ _ r e).trans ?_
  unfold VMEM
  refine memV_congr (funext fun k => ?_) (funext fun k => ?_) (funext fun k => funext fun l => ?_) (Fin.ext ?_)
  · blk_ext [iblk0, idx0 t]
  · blk_ext [iblk0, idx0 t]
  · blk_ext [iblk0, idx0 t]
  · blk_simp [idx0 t]

theorem final0_4 : (dat0 V c).arrAt 4 cfg0.N = KMEM (V c main_arg2) (V c main_v1) (V c main_v3) (V c main_v5) := by
  refine (dat0 V c).arrAt_eq_of_covers 4 _ (by decide +kernel) fun t _ y => ?_
  blk_simp
  rw [after0_4]
  obtain ⟨r, e, rfl⟩ : ∃ (r : Fin 256) (e : Fin 512), y = ix3 0 r e :=
    ⟨y 1, y 2, funext fun a => by fin_cases a <;> first | rfl | exact Fin.ext (Nat.lt_one_iff.mp (show (y 0).val < 1 from (y 0).isLt))⟩
  obtain ⟨h, d, rfl⟩ : ∃ (h : Fin 4) (d : Fin 128), e = hd h d :=
    ⟨⟨e.val / 128, by omega⟩, ⟨e.val % 128, by omega⟩, Fin.ext (by show e.val = e.val / 128 * 128 + e.val % 128; omega)⟩
  refine (out0_4_at _ _ _ _ r h d).trans ?_
  unfold KMEM
  refine memK_congr (funext fun k => ?_) (funext fun k => ?_) (funext fun k => funext fun l => ?_) (funext fun k => ?_)
    (Fin.ext ?_) (Fin.ext ?_)
  · blk_ext [iblk0, idx0 t]
  · blk_ext [iblk0, idx0 t]
  · blk_ext [iblk0, idx0 t]
  · blk_ext [iblk0, idx0 t]
  · blk_simp [idx0 t]; show h.val = (h.val * 128 + d.val) / 128; omega
  · blk_simp [idx0 t]; show d.val = (h.val * 128 + d.val) % 128; omega

theorem t64 (t : Fin cfg1.N) : t.val < 64 := t.isLt

theorem ib1_0 (t : Fin cfg1.N) (r : Fin 512) (k : Fin 1024) : iblk1 V c 0 t (ix3 0 r k)
    = V c main_arg0 (ix3 ⟨t.val / 4, by have := t64 t; omega⟩ ⟨t.val % 4 * 512 + r.val, by omega⟩ k) := by
  blk_ext [iblk1, idx1_0 t]

theorem ib1_1 (t : Fin cfg1.N) (r : Fin 512) (k : Fin 1024) : iblk1 V c 1 t (ix3 0 r k)
    = V c main_arg1 (ix3 ⟨t.val / 4, by have := t64 t; omega⟩ ⟨t.val % 4 * 512 + r.val, by omega⟩ k) := by
  blk_ext [iblk1, idx1_1 t]

theorem ib1_2 (t : Fin cfg1.N) : iblk1 V c 2 t = V c main_v8 := by
  blk_ext! [iblk1, idx1_2 t]

theorem ib1_3 (t : Fin cfg1.N) : iblk1 V c 3 t = V c main_v10 := by
  blk_ext! [iblk1, idx1_3 t]

theorem ib1_4 (t : Fin cfg1.N) : iblk1 V c 4 t = V c main_v12 := by
  blk_ext! [iblk1, idx1_4 t]

theorem ib1_5 (t : Fin cfg1.N) : iblk1 V c 5 t = V c main_v14 := by
  blk_ext! [iblk1, idx1_5 t]

theorem ib1_6 (t : Fin cfg1.N) (r : Fin 256) (k : Fin 512) : iblk1 V c 6 t (ix3 0 r k)
    = V c main_v6_0 (ix3 ⟨t.val / 4, by have := t64 t; omega⟩ r k) := by
  blk_ext [iblk1, idx1_6 t]

theorem ib1_7 (t : Fin cfg1.N) (r : Fin 256) (k : Fin 512) : iblk1 V c 7 t (ix3 0 r k)
    = V c main_v6_1 (ix3 ⟨t.val / 4, by have := t64 t; omega⟩ r k) := by
  blk_ext [iblk1, idx1_7 t]

theorem ib1_8 (t : Fin cfg1.N) : iblk1 V c 8 t = V c main_v16 := by
  blk_ext! [iblk1, idx1_8 t]

theorem ib1_9 (t : Fin cfg1.N) : iblk1 V c 9 t = V c main_v18 := by
  blk_ext! [iblk1, idx1_9 t]

theorem ib1_10 (t : Fin cfg1.N) : iblk1 V c 10 t = V c main_v20 := by
  blk_ext! [iblk1, idx1_10 t]

theorem ib1_11 (t : Fin cfg1.N) : iblk1 V c 11 t = V c main_v22 := by
  blk_ext! [iblk1, idx1_11 t]

/-- The tail's result: every row the tail of that row over its batch's memory. -/
def TAIL (x : Vec Ideal S16x2048x1024 .f32) (mix : Vec Ideal S16x2048x1024 .bf16) (wout : Vec Ideal S1024x1024 .bf16)
    (g2 : Vec Ideal S1x1024 .f32) (wq : Vec Ideal S1024x512 .bf16) (gq : Vec Ideal S1x128 .f32)
    (km vm : Vec Ideal S16x256x512 .bf16) (wo : Vec Ideal S512x1024 .bf16) (g3 : Vec Ideal S1x1024 .f32)
    (up : Vec Ideal S1024x4096 .bf16) (dn : Vec Ideal S4096x1024 .bf16) : Vec Ideal S16x2048x1024 .f32 := fun i =>
  tailRow HK (fun k => x (ix3 (i 0) (i 1) k)) (fun k => mix (ix3 (i 0) (i 1) k)) (fun k l => wout (ix2 k l))
    (fun d => g2 (ix2 0 d)) (fun k j => wq (ix2 k j)) (fun d => gq (ix2 0 d)) (fun m e => km (ix3 (i 0) m e))
    (fun m e => vm (ix3 (i 0) m e)) (fun e l => wo (ix2 e l)) (fun d => g3 (ix2 0 d)) (fun k f => up (ix2 k f))
    (fun f l => dn (ix2 f l)) (i 2)

theorem final1_12 : (dat1 V c).arrAt 12 cfg1.N = TAIL (V c main_arg0) (V c main_arg1) (V c main_v8) (V c main_v10)
    (V c main_v12) (V c main_v14) (V c main_v6_0) (V c main_v6_1) (V c main_v16) (V c main_v18) (V c main_v20) (V c main_v22) := by
  refine (dat1 V c).arrAt_eq_of_covers 12 _ (by decide +kernel) fun t _ y => ?_
  blk_simp
  rw [after1_12]
  obtain ⟨r, l, rfl⟩ : ∃ (r : Fin 512) (l : Fin 1024), y = ix3 0 r l :=
    ⟨y 1, y 2, funext fun a => by fin_cases a <;> first | rfl | exact Fin.ext (Nat.lt_one_iff.mp (show (y 0).val < 1 from (y 0).isLt))⟩
  refine (out1_12_at _ _ _ _ _ _ _ _ _ _ _ _ r l).trans ?_
  unfold TAIL
  have e0 : (((cfg1.win 12).blk t).view.emb (ix3 0 r l)) = ix3 ⟨t.val / 4, by have := t64 t; omega⟩ ⟨t.val % 4 * 512 + r.val, by omega⟩ l := by
    blk_ext [idx1_12 t]
  rw [e0]
  rw [ib1_2, ib1_3, ib1_4, ib1_5, ib1_8, ib1_9, ib1_10, ib1_11]
  exact tailRow_congr (funext fun k => ib1_0 V c t r k) (funext fun k => ib1_1 V c t r k) rfl rfl rfl rfl
    (funext fun k => funext fun l => ib1_6 V c t k l) (funext fun k => funext fun l => ib1_7 V c t k l) rfl rfl rfl rfl rfl

end Cert.Tail

end
-- ==== Proof.Host.lean ====
/- What the host operations around the two calls leave: each weight and gain as the argument holds it. -/
module

public import proofs.«01_k».proof.Proof.Final

@[expose] public section

set_option maxRecDepth 16384

noncomputable section

namespace Cert.Tail

open Idealize.ShloMosaic Idealize.ShloMosaic.TcCoe Idealize.SL.Sem
open Cert.KernelIdeal Cert.KernelIdeal.Gen

variable (W : Valuation τ sig (Elt Ideal))

theorem at_v1 (A : FVec Ideal S1x1024 .f32) (B : FVec Ideal S1x1024 .f32) (hA : W (Proc.devRef .tc main_arg5) = A)
    (hB : StableHlo.after hostOps0 W (Proc.devRef .tc main_v1) = B) (d : Fin 1024) : B (ix2 0 d) = A (ix2 0 d) := by
  have h : B = broadcastInDim S1x1024 ![1] bcast_S1024_S1x1024_1 (shapeCast S1024 A shapeCasts_S1x1024_S1024) := by
    subst hA; subst hB
    simp only [hostOps0]
    after_results_simp
    try rfl
  subst h
  pointwise []

theorem at_v3 (A : FVec Ideal S1x1024x1024 .f32) (B : FVec Ideal S1024x1024 .bf16) (hA : W (Proc.devRef .tc main_arg7) = A)
    (hB : StableHlo.after hostOps0 W (Proc.devRef .tc main_v3) = B) (k : Fin 1024) (l : Fin 1024) : B (ix2 k l) = A (ix3 0 k l) := by
  have h : B = truncf .bf16 (shapeCast S1024x1024 A shapeCasts_S1x1024x1024_S1024x1024) bitsLt_bf16_f32 := by
    subst hA; subst hB
    simp only [hostOps0]
    after_results_simp
    try rfl
  subst h
  pointwise []

theorem at_v5 (A : FVec Ideal S1x128 .f32) (B : FVec Ideal S1x128 .f32) (hA : W (Proc.devRef .tc main_arg9) = A)
    (hB : StableHlo.after hostOps0 W (Proc.devRef .tc main_v5) = B) (d : Fin 128) : B (ix2 0 d) = A (ix2 0 d) := by
  have h : B = broadcastInDim S1x128 ![1] bcast_S128_S1x128_1 (shapeCast S128 A shapeCasts_S1x128_S128) := by
    subst hA; subst hB
    simp only [hostOps0]
    after_results_simp
    try rfl
  subst h
  pointwise []

theorem at_v8 (A : FVec Ideal S1x1024x1024 .f32) (B : FVec Ideal S1024x1024 .bf16) (hA : W (Proc.devRef .tc main_arg3) = A)
    (hB : StableHlo.after hostOps1 W (Proc.devRef .tc main_v8) = B) (k : Fin 1024) (l : Fin 1024) : B (ix2 k l) = A (ix3 0 k l) := by
  have h : B = truncf .bf16 (shapeCast S1024x1024 A shapeCasts_S1x1024x1024_S1024x1024) bitsLt_bf16_f32 := by
    subst hA; subst hB
    simp only [hostOps1]
    after_results_simp
    try rfl
  subst h
  pointwise []

theorem at_v10 (A : FVec Ideal S1x1024 .f32) (B : FVec Ideal S1x1024 .f32) (hA : W (Proc.devRef .tc main_arg4) = A)
    (hB : StableHlo.after hostOps1 W (Proc.devRef .tc main_v10) = B) (d : Fin 1024) : B (ix2 0 d) = A (ix2 0 d) := by
  have h : B = broadcastInDim S1x1024 ![1] bcast_S1024_S1x1024_1 (shapeCast S1024 A shapeCasts_S1x1024_S1024) := by
    subst hA; subst hB
    simp only [hostOps1]
    after_results_simp
    try rfl
  subst h
  pointwise []

theorem at_v12 (A : FVec Ideal S1x1024x512 .f32) (B : FVec Ideal S1024x512 .bf16) (hA : W (Proc.devRef .tc main_arg6) = A)
    (hB : StableHlo.after hostOps1 W (Proc.devRef .tc main_v12) = B) (k : Fin 1024) (l : Fin 512) : B (ix2 k l) = A (ix3 0 k l) := by
  have h : B = truncf .bf16 (shapeCast S1024x512 A shapeCasts_S1x1024x512_S1024x512) bitsLt_bf16_f32 := by
    subst hA; subst hB
    simp only [hostOps1]
    after_results_simp
    try rfl
  subst h
  pointwise []

theorem at_v14 (A : FVec Ideal S1x128 .f32) (B : FVec Ideal S1x128 .f32) (hA : W (Proc.devRef .tc main_arg8) = A)
    (hB : StableHlo.after hostOps1 W (Proc.devRef .tc main_v14) = B) (d : Fin 128) : B (ix2 0 d) = A (ix2 0 d) := by
  have h : B = broadcastInDim S1x128 ![1] bcast_S128_S1x128_1 (shapeCast S128 A shapeCasts_S1x128_S128) := by
    subst hA; subst hB
    simp only [hostOps1]
    after_results_simp
    try rfl
  subst h
  pointwise []

theorem at_v16 (A : FVec Ideal S1x512x1024 .f32) (B : FVec Ideal S512x1024 .bf16) (hA : W (Proc.devRef .tc main_arg10) = A)
    (hB : StableHlo.after hostOps1 W (Proc.devRef .tc main_v16) = B) (k : Fin 512) (l : Fin 1024) : B (ix2 k l) = A (ix3 0 k l) := by
  have h : B = truncf .bf16 (shapeCast S512x1024 A shapeCasts_S1x512x1024_S512x1024) bitsLt_bf16_f32 := by
    subst hA; subst hB
    simp only [hostOps1]
    after_results_simp
    try rfl
  subst h
  pointwise []

theorem at_v18 (A : FVec Ideal S1x1024 .f32) (B : FVec Ideal S1x1024 .f32) (hA : W (Proc.devRef .tc main_arg11) = A)
    (hB : StableHlo.after hostOps1 W (Proc.devRef .tc main_v18) = B) (d : Fin 1024) : B (ix2 0 d) = A (ix2 0 d) := by
  have h : B = broadcastInDim S1x1024 ![1] bcast_S1024_S1x1024_1 (shapeCast S1024 A shapeCasts_S1x1024_S1024) := by
    subst hA; subst hB
    simp only [hostOps1]
    after_results_simp
    try rfl
  subst h
  pointwise []

theorem at_v20 (A : FVec Ideal S1x1024x4096 .f32) (B : FVec Ideal S1024x4096 .bf16) (hA : W (Proc.devRef .tc main_arg12) = A)
    (hB : StableHlo.after hostOps1 W (Proc.devRef .tc main_v20) = B) (k : Fin 1024) (l : Fin 4096) : B (ix2 k l) = A (ix3 0 k l) := by
  have h : B = truncf .bf16 (shapeCast S1024x4096 A shapeCasts_S1x1024x4096_S1024x4096) bitsLt_bf16_f32 := by
    subst hA; subst hB
    simp only [hostOps1]
    after_results_simp
    try rfl
  subst h
  pointwise []

theorem at_v22 (A : FVec Ideal S1x4096x1024 .f32) (B : FVec Ideal S4096x1024 .bf16) (hA : W (Proc.devRef .tc main_arg13) = A)
    (hB : StableHlo.after hostOps1 W (Proc.devRef .tc main_v22) = B) (k : Fin 4096) (l : Fin 1024) : B (ix2 k l) = A (ix3 0 k l) := by
  have h : B = truncf .bf16 (shapeCast S4096x1024 A shapeCasts_S1x4096x1024_S4096x1024) bitsLt_bf16_f32 := by
    subst hA; subst hB
    simp only [hostOps1]
    after_results_simp
    try rfl
  subst h
  pointwise []

end Cert.Tail

end
-- ==== Proof.KernelValue.lean ====
/- The result array of the two calls as one function of the arguments. -/
module

public import proofs.«01_k».proof.Proof.Host

@[expose] public section

set_option maxRecDepth 16384

noncomputable section

namespace Cert.Tail

open Idealize.ShloMosaic Idealize.ShloMosaic.TcCoe Idealize.SL.Sem
open Cert.KernelIdeal Cert.KernelIdeal.Gen

/-- The layer's last part over its arguments, every row at once; `H` is the order of operations of an attention head. -/
def RES (H : (Fin 128 → EReal) → (Fin 256 → Fin 128 → EReal) → (Fin 256 → EReal) → EReal)
    (a0 : Vec Ideal S16x2048x1024 .f32) (a1 : Vec Ideal S16x2048x1024 .bf16) (a2 : Vec Ideal S16x256x1024 .f32)
    (a3 : Vec Ideal S1x1024x1024 .f32) (a4 a5 : Vec Ideal S1x1024 .f32) (a6 : Vec Ideal S1x1024x512 .f32)
    (a7 : Vec Ideal S1x1024x1024 .f32) (a8 a9 : Vec Ideal S1x128 .f32) (a10 : Vec Ideal S1x512x1024 .f32)
    (a11 : Vec Ideal S1x1024 .f32) (a12 : Vec Ideal S1x1024x4096 .f32) (a13 : Vec Ideal S1x4096x1024 .f32) :
    Vec Ideal S16x2048x1024 .f32 := fun i =>
  tailRow H (fun k => a0 (ix3 (i 0) (i 1) k)) (fun k => a1 (ix3 (i 0) (i 1) k)) (fun k l => a3 (ix3 0 k l))
    (fun d => a4 (ix2 0 d)) (fun k j => a6 (ix3 0 k j)) (fun d => a8 (ix2 0 d))
    (fun m e => memK (fun k => a2 (ix3 (i 0) m k)) (fun d => a5 (ix2 0 d)) (fun k j => a7 (ix3 0 k j)) (fun d => a9 (ix2 0 d))
      ⟨e.val / 128, Nat.div_lt_of_lt_mul e.isLt⟩ ⟨e.val % 128, Nat.mod_lt _ (by decide)⟩)
    (fun m e => memV (fun k => a2 (ix3 (i 0) m k)) (fun d => a5 (ix2 0 d)) (fun k j => a7 (ix3 0 k j)) e)
    (fun e l => a10 (ix3 0 e l)) (fun d => a11 (ix2 0 d)) (fun k f => a12 (ix3 0 k f)) (fun f l => a13 (ix3 0 f l)) (i 2)

variable (m : (ℓ : Loc nD τ sig) → Buf (Elt Ideal) ℓ) (ρ : Dev nD → PrngReg) (c : Dev nD)

theorem kmem_value : V3 m ρ c main_v6_0 = KMEM (V1 m ρ c main_arg2) (V1 m ρ c main_v1) (V1 m ρ c main_v3) (V1 m ρ c main_v5) :=
  (W3_of m ρ c main_v6_0 (by decide)).trans ((W2_arr m ρ c 4).trans (final0_4 (V1 m ρ) c))

theorem vmem_value : V3 m ρ c main_v6_1 = VMEM (V1 m ρ c main_arg2) (V1 m ρ c main_v1) (V1 m ρ c main_v3) :=
  (W3_of m ρ c main_v6_1 (by decide)).trans ((W2_arr m ρ c 5).trans (final0_5 (V1 m ρ) c))

/-- The result array after both calls, over the arguments as launched. -/
theorem kernel_value : (dat1 (V3 m ρ) c).arrAt 12 cfg1.N = RES HK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [final1_12, kmem_value, vmem_value]
  have a0 : V3 m ρ c main_arg0 = m ((c : Thread nD τ).loc main_arg0) := W3_args m ρ c main_arg0 (by decide)
  have a1 : V3 m ρ c main_arg1 = m ((c : Thread nD τ).loc main_arg1) := W3_args m ρ c main_arg1 (by decide)
  have a2 : V1 m ρ c main_arg2 = m ((c : Thread nD τ).loc main_arg2) := W1_args m ρ c main_arg2 (by decide)
  rw [a0, a1, a2]
  funext i
  unfold TAIL RES KMEM VMEM
  exact tailRow_congr rfl rfl
    (funext fun k => funext fun l => at_v8 (W2 m ρ c) _ _ (W2_args m ρ c main_arg3 (by decide)) rfl k l)
    (funext fun d => at_v10 (W2 m ρ c) _ _ (W2_args m ρ c main_arg4 (by decide)) rfl d)
    (funext fun k => funext fun l => at_v12 (W2 m ρ c) _ _ (W2_args m ρ c main_arg6 (by decide)) rfl k l)
    (funext fun d => at_v14 (W2 m ρ c) _ _ (W2_args m ρ c main_arg8 (by decide)) rfl d)
    (funext fun r => funext fun e => memK_congr rfl
      (funext fun d => at_v1 (W0 m ρ c) _ _ rfl rfl d)
      (funext fun k => funext fun l => at_v3 (W0 m ρ c) _ _ rfl rfl k l)
      (funext fun d => at_v5 (W0 m ρ c) _ _ rfl rfl d) rfl rfl)
    (funext fun r => funext fun e => memV_congr rfl
      (funext fun d => at_v1 (W0 m ρ c) _ _ rfl rfl d)
      (funext fun k => funext fun l => at_v3 (W0 m ρ c) _ _ rfl rfl k l) rfl)
    (funext fun k => funext fun l => at_v16 (W2 m ρ c) _ _ (W2_args m ρ c main_arg10 (by decide)) rfl k l)
    (funext fun d => at_v18 (W2 m ρ c) _ _ (W2_args m ρ c main_arg11 (by decide)) rfl d)
    (funext fun k => funext fun l => at_v20 (W2 m ρ c) _ _ (W2_args m ρ c main_arg12 (by decide)) rfl k l)
    (funext fun k => funext fun l => at_v22 (W2 m ρ c) _ _ (W2_args m ρ c main_arg13 (by decide)) rfl k l) rfl

end Cert.Tail

end
-- ==== Proof.RefAttn.lean ====
/- The reference's attention over the memory, read at one index: the weights and the projected heads. -/
module

public import proofs.«01_k».proof.Proof.Gen.ReferenceIdeal.Run
public import proofs.«01_k».proof.Proof.TailPay

@[expose] public section

set_option maxRecDepth 16384

noncomputable section

namespace Cert.Tail.Ref

open Idealize.ShloMosaic Idealize.ShloMosaic.TcCoe Idealize.SL.Sem
open Cert.ReferenceIdeal Cert.ReferenceIdeal.Gen Cert.ReferenceIdeal.Value

theorem max_op : (FloatOps.maximumf : Ideal .f32 → Ideal .f32 → Ideal .f32) = (max : EReal → EReal → EReal) := rfl

/-- A fold of maxima along the last of four axes, over a whole tensor and over the row. -/
theorem rowfold {n0 n1 n2 n3 : ℕ} {r u : Shape} (S : (⟨4, ![n0, n1, n2, n3]⟩ : Shape).Idx → EReal) (c : u.Idx → EReal)
    (hr : (⟨4, ![n0, n1, n2, n3]⟩ : Shape).ReducesTo [3] r) (hu : 0 < u.numel) (j : r.Idx) :
    Host.reduce (max : EReal → EReal → EReal) S c hr hu j = Finset.univ.fold max (c (Shape.Idx.first hu)) fun m : Fin n3 =>
      S (ix4 ⟨(j ⟨0, hr.lt_r4_a3_0⟩).val, Shape.coordLt (j ⟨0, hr.lt_r4_a3_0⟩) hr.size_r4_a3_0⟩
        ⟨(j ⟨1, hr.lt_r4_a3_1⟩).val, Shape.coordLt (j ⟨1, hr.lt_r4_a3_1⟩) hr.size_r4_a3_1⟩
        ⟨(j ⟨2, hr.lt_r4_a3_2⟩).val, Shape.coordLt (j ⟨2, hr.lt_r4_a3_2⟩) hr.size_r4_a3_2⟩ m) :=
  (Host.reduce_eq_fold (max : EReal → EReal → EReal) S c hr hu j).trans (Shape.ReducesTo.fold_fiber_r4_a3 hr j _ _ _)

theorem max_at (A B : FVec Ideal S16x4x2048 .f32) (j : S16x4x2048.Idx) :
    (maximumf A B : FVec Ideal S16x4x2048 .f32) j = max (A j) (B j) := rfl

theorem init_at (j : S16x4x2048.Idx) : (broadcastInDim S16x4x2048 ![] bcast_S_S16x4x2048 (constant S_ .f32 0xFF800000#32) : FVec Ideal S16x4x2048 .f32) j = ninf := rfl

theorem rowmax_at (S : FVec Ideal S16x4x2048x256 .f32) (b : Fin 16) (h : Fin 4) (t : Fin 2048) :
    (maximumf (broadcastInDim S16x4x2048 ![] bcast_S_S16x4x2048 (constant S_ .f32 0xFF800000#32)) (Host.reduce FloatOps.maximumf S (constant S_ .f32 0xFF800000#32) reducesTo_S16x4x2048x256_S16x4x2048_d3 h_S_)
      : FVec Ideal S16x4x2048 .f32) (ix3 b h t) = Finset.univ.fold max ninf fun m => S (ix4 b h t m) := by
  rw [max_op, max_at, init_at, rowfold]
  exact max_eq_right (ninf_bot.trans_le bot_le)

theorem weights_at (S : FVec Ideal S16x4x2048x256 .f32) (M : FVec Ideal S16x4x2048 .f32) (b : Fin 16) (h : Fin 4) (t : Fin 2048) (m : Fin 256) :
    (Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 M)))
      : FVec Ideal S16x4x2048x256 .f32) (ix4 b h t m) = Ideal.exp (S (ix4 b h t m) - M (ix3 b h t)) := by
  pointwise []

theorem heads_at (V : FVec Ideal S16x256x1024 .f32) (E : FVec Ideal S16x4x2048x256 .f32) (b : Fin 16) (t : Fin 2048) (h : Fin 4) (d : Fin 128) :
    (transpose S16x2048x4x128 [0, 3, 1, 2] (Host.dotGeneral dot_S16x256x4x128_S16x4x2048x256_S16x4x128x2048_1_3_3_2_02_01 none (shapeCast _ (extractStridedSlice S16x256x512 ![0, 0, 512] V slices_S16x256x1024_S16x256x512_0_0_512) shapeCasts_S16x256x512_S16x256x4x128 : FVec Ideal S16x256x4x128 .f32) (Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_)))) : FVec Ideal S16x4x128x2048 .f32) transposes_S16x4x128x2048_S16x2048x4x128_0_3_1_2
      : FVec Ideal S16x2048x4x128 .f32) (ix4 b t h d)
      = ∑ m, V (ix3 b m ⟨512 + (h.val * 128 + d.val), by omega⟩) * Ideal.div (E (ix4 b h t m)) (∑ n, E (ix4 b h t n)) := by
  pointwise []

theorem proj_at (H1 : FVec Ideal S16x2048x1024 .f32) (O : FVec Ideal S16x2048x4x128 .f32) (W : FVec Ideal S1x512x1024 .f32) (b : Fin 16) (t : Fin 2048) (l : Fin 1024) :
    (addf H1 (Host.dotGeneral dot_S16x2048x512_S512x1024_S16x2048x1024_2_0_01_1_n_n none (shapeCast _ O shapeCasts_S16x2048x4x128_S16x2048x512 : FVec Ideal S16x2048x512 .f32) (shapeCast _ W shapeCasts_S1x512x1024_S512x1024 : FVec Ideal S512x1024 .f32))
      : FVec Ideal S16x2048x1024 .f32) (ix3 b t l) = H1 (ix3 b t l) + ∑ h : Fin 4, ∑ d : Fin 128, O (ix4 b t h d) * W (ix3 0 (hd h d) l) := by
  pointwise []
  refine congrArg (H1 (ix3 b t l) + ·) ?_
  rw [Fin.sum_univ_tiles 4 128 rfl]
  refine Finset.sum_congr rfl fun h _ => Finset.sum_congr rfl fun d _ => ?_
  exact congrArg₂ (· * ·) (congrArg₂ (fun p q => O (ix4 b t p q))
    (Fin.ext (by show (h.val * 128 + d.val) / 128 = h.val; omega))
    (Fin.ext (by show (h.val * 128 + d.val) % 128 = d.val; omega))) rfl

end Cert.Tail.Ref

end
-- ==== Proof.RefValue.lean ====
/- The reference's result, read at one row and one column. -/
module

public import proofs.«01_k».proof.Proof.RefAttn

@[expose] public section

set_option maxRecDepth 16384

noncomputable section

namespace Cert.Tail.Ref

open Idealize.ShloMosaic Idealize.ShloMosaic.TcCoe Idealize.SL.Sem
open Cert.ReferenceIdeal Cert.ReferenceIdeal.Gen Cert.ReferenceIdeal.Value

variable (L : Valuation τ sig (Elt Ideal))

/-- Argument 0. -/
abbrev A0 : FVec Ideal S16x2048x1024 .f32 := L (Proc.devRef .tc main_arg0)
/-- Argument 1. -/
abbrev A1 : FVec Ideal S16x2048x1024 .bf16 := L (Proc.devRef .tc main_arg1)
/-- Argument 2. -/
abbrev A2 : FVec Ideal S16x256x1024 .f32 := L (Proc.devRef .tc main_arg2)
/-- Argument 3. -/
abbrev A3 : FVec Ideal S1x1024x1024 .f32 := L (Proc.devRef .tc main_arg3)
/-- Argument 4. -/
abbrev A4 : FVec Ideal S1x1024 .f32 := L (Proc.devRef .tc main_arg4)
/-- Argument 5. -/
abbrev A5 : FVec Ideal S1x1024 .f32 := L (Proc.devRef .tc main_arg5)
/-- Argument 6. -/
abbrev A6 : FVec Ideal S1x1024x512 .f32 := L (Proc.devRef .tc main_arg6)
/-- Argument 7. -/
abbrev A7 : FVec Ideal S1x1024x1024 .f32 := L (Proc.devRef .tc main_arg7)
/-- Argument 8. -/
abbrev A8 : FVec Ideal S1x128 .f32 := L (Proc.devRef .tc main_arg8)
/-- Argument 9. -/
abbrev A9 : FVec Ideal S1x128 .f32 := L (Proc.devRef .tc main_arg9)
/-- Argument 10. -/
abbrev A10 : FVec Ideal S1x512x1024 .f32 := L (Proc.devRef .tc main_arg10)
/-- Argument 11. -/
abbrev A11 : FVec Ideal S1x1024 .f32 := L (Proc.devRef .tc main_arg11)
/-- Argument 12. -/
abbrev A12 : FVec Ideal S1x1024x4096 .f32 := L (Proc.devRef .tc main_arg12)
/-- Argument 13. -/
abbrev A13 : FVec Ideal S1x4096x1024 .f32 := L (Proc.devRef .tc main_arg13)

theorem h1_at (b : Fin 16) (t : Fin 2048) (l : Fin 1024) : res_main_v3 L (ix3 b t l)
    = preRow (fun k => A0 L (ix3 b t k)) (fun k => A1 L (ix3 b t k)) (fun k l => A3 L (ix3 0 k l)) l := by
  pointwise [res_main_v3]
  rfl

theorem q_at (b : Fin 16) (t : Fin 2048) (h : Fin 4) (d : Fin 128) : res_main_v38 L (ix4 b t h d)
    = projRow (fun d => A4 L (ix2 0 d)) (fun d => res_main_v3 L (ix3 b t d)) (fun k j => A6 L (ix3 0 k j)) (hd h d) := by
  pointwise [res_main_v38]
  rfl

theorem kv_at (b : Fin 16) (m : Fin 256) (j : Fin 1024) : res_main_v52 L (ix3 b m j)
    = projRow (fun d => A5 L (ix2 0 d)) (fun d => A2 L (ix3 b m d)) (fun k j => A7 L (ix3 0 k j)) j := by
  pointwise [res_main_v52]
  rfl

theorem k_at (b : Fin 16) (m : Fin 256) (h : Fin 4) (d : Fin 128) : res_main_v54 L (ix4 b m h d)
    = res_main_v52 L (ix3 b m ⟨h.val * 128 + d.val, by omega⟩) := by
  pointwise [res_main_v54]
  try rfl

theorem s_at (b : Fin 16) (h : Fin 4) (t : Fin 2048) (m : Fin 256) : res_main_v72 L (ix4 b h t m)
    = scoreR (rms (Ideal.ofBits .f32 0x43000000#32) (fun d => A8 L (ix2 0 d)) (fun d => res_main_v38 L (ix4 b t h d)))
        (fun m => rms (Ideal.ofBits .f32 0x43000000#32) (fun d => A9 L (ix2 0 d)) (fun d => res_main_v54 L (ix4 b m h d))) m := by
  pointwise [res_main_v72]
  rfl

theorem e_at (b : Fin 16) (h : Fin 4) (t : Fin 2048) (m : Fin 256) : (res_main_v79 L : FVec Ideal S16x4x2048x256 .f32) (ix4 b h t m)
    = expW (fun m => (res_main_v72 L : FVec Ideal S16x4x2048x256 .f32) (ix4 b h t m)) m := by
  unfold res_main_v79
  refine (weights_at _ _ b h t m).trans ?_
  rw [rowmax_at]
  rfl

/-- The residual row, the projected memory and the weights at their shapes. -/
abbrev R3 : FVec Ideal S16x2048x1024 .f32 := res_main_v3 L
abbrev R52 : FVec Ideal S16x256x1024 .f32 := res_main_v52 L
abbrev R79 : FVec Ideal S16x4x2048x256 .f32 := res_main_v79 L

theorem h2_at (b : Fin 16) (t : Fin 2048) (l : Fin 1024) : res_main_v88 L (ix3 b t l)
    = R3 L (ix3 b t l) + ∑ h : Fin 4, ∑ d : Fin 128,
        (∑ m, R52 L (ix3 b m ⟨512 + (h.val * 128 + d.val), by omega⟩)
          * Ideal.div (R79 L (ix4 b h t m)) (∑ n, R79 L (ix4 b h t n))) * A10 L (ix3 0 (hd h d) l) := by
  unfold res_main_v88
  refine (proj_at _ _ _ b t l).trans ?_
  exact congrArg (R3 L (ix3 b t l) + ·) (Finset.sum_congr rfl fun h _ => Finset.sum_congr rfl fun d _ =>
    congrArg (· * A10 L (ix3 0 (hd h d) l)) (heads_at (R52 L) (R79 L) b t h d))

theorem up_at (b : Fin 16) (t : Fin 2048) (f : Fin 4096) : res_main_v105 L (ix3 b t f)
    = max (projRow (fun d => A11 L (ix2 0 d)) (fun d => res_main_v88 L (ix3 b t d)) (fun k f => A12 L (ix3 0 k f)) f) 0 := by
  pointwise [res_main_v105]
  rfl

/-- The reference's result. -/
abbrev OUT : FVec Ideal S16x2048x1024 .f32 :=
  addf (res_main_v88 L) (Host.dotGeneral dot_S16x2048x4096_S4096x1024_S16x2048x1024_2_0_01_1_n_n none
    (mulf (res_main_v105 L : FVec Ideal S16x2048x4096 .f32) (res_main_v105 L) : FVec Ideal S16x2048x4096 .f32) (shapeCast _ (A13 L) shapeCasts_S1x4096x1024_S4096x1024 : FVec Ideal S4096x1024 .f32))

theorem out_at (b : Fin 16) (t : Fin 2048) (l : Fin 1024) : OUT L (ix3 b t l)
    = mlpRow (fun d => res_main_v88 L (ix3 b t d)) (fun d => A11 L (ix2 0 d)) (fun k f => A12 L (ix3 0 k f))
        (fun f l => A13 L (ix3 0 f l)) l := by
  pointwise [OUT]
  simp only [up_at]
  rfl

end Cert.Tail.Ref

end
-- ==== Proof.RefRow.lean ====
/- The reference's result as the layer's last part over its arguments. -/
module

public import proofs.«01_k».proof.Proof.RefValue
public import proofs.«01_k».proof.Proof.KernelValue

@[expose] public section

set_option maxRecDepth 16384

noncomputable section

namespace Cert.Tail.Ref

open Idealize.ShloMosaic Idealize.ShloMosaic.TcCoe Idealize.SL.Sem
open Cert.ReferenceIdeal Cert.ReferenceIdeal.Gen Cert.ReferenceIdeal.Value

variable (L : Valuation τ sig (Elt Ideal))

/-- The reference's order of operations in a head. -/
abbrev HR (q : Fin 128 → EReal) (k : Fin 256 → Fin 128 → EReal) (v : Fin 256 → EReal) : EReal := headR (scoreR q k) v

/-- The row before the attention. -/
abbrev pre (b : Fin 16) (t : Fin 2048) : Fin 1024 → EReal :=
  preRow (fun k => A0 L (ix3 b t k)) (fun k => A1 L (ix3 b t k)) (fun k l => A3 L (ix3 0 k l))

/-- The query row. -/
abbrev qrow (b : Fin 16) (t : Fin 2048) : Fin 512 → EReal :=
  projRow (fun d => A4 L (ix2 0 d)) (pre L b t) (fun k j => A6 L (ix3 0 k j))

/-- The memory's keys of a batch. -/
abbrev KM (b : Fin 16) (m : Fin 256) (e : Fin 512) : EReal :=
  memK (fun k => A2 L (ix3 b m k)) (fun d => A5 L (ix2 0 d)) (fun k j => A7 L (ix3 0 k j)) (fun d => A9 L (ix2 0 d))
    ⟨e.val / 128, Nat.div_lt_of_lt_mul e.isLt⟩ ⟨e.val % 128, Nat.mod_lt _ (by decide)⟩

/-- The memory's values of a batch. -/
abbrev VM (b : Fin 16) (m : Fin 256) (e : Fin 512) : EReal :=
  memV (fun k => A2 L (ix3 b m k)) (fun d => A5 L (ix2 0 d)) (fun k j => A7 L (ix3 0 k j)) e

theorem KM_hd (b : Fin 16) (m : Fin 256) (h : Fin 4) (d : Fin 128) : KM L b m (hd h d)
    = memK (fun k => A2 L (ix3 b m k)) (fun d => A5 L (ix2 0 d)) (fun k j => A7 L (ix3 0 k j)) (fun d => A9 L (ix2 0 d)) h d :=
  memK_congr rfl rfl rfl rfl (Fin.ext (by show (h.val * 128 + d.val) / 128 = h.val; omega))
    (Fin.ext (by show (h.val * 128 + d.val) % 128 = d.val; omega))

theorem pre_eq (b : Fin 16) (t : Fin 2048) : (fun d => R3 L (ix3 b t d)) = pre L b t := funext fun d => h1_at L b t d

theorem qrow_eq (b : Fin 16) (t : Fin 2048) (h : Fin 4) :
    (fun d => (res_main_v38 L : FVec Ideal S16x2048x4x128 .f32) (ix4 b t h d)) = fun d => qrow L b t (hd h d) :=
  funext fun d => (q_at L b t h d).trans (congrArg (fun v => projRow (fun d => A4 L (ix2 0 d)) v (fun k j => A6 L (ix3 0 k j)) (hd h d)) (pre_eq L b t))

theorem krow_eq (b : Fin 16) (m : Fin 256) (h : Fin 4) :
    rms (Ideal.ofBits .f32 0x43000000#32) (fun d => A9 L (ix2 0 d)) (fun d => (res_main_v54 L : FVec Ideal S16x256x4x128 .f32) (ix4 b m h d))
      = fun d => KM L b m (hd h d) := by
  have e : (fun d => (res_main_v54 L : FVec Ideal S16x256x4x128 .f32) (ix4 b m h d))
      = fun d : Fin 128 => projRow (fun d => A5 L (ix2 0 d)) (fun d => A2 L (ix3 b m d)) (fun k j => A7 L (ix3 0 k j))
          ⟨h.val * 128 + d.val, by omega⟩ := funext fun d => (k_at L b m h d).trans (kv_at L b m _)
  rw [e]
  exact funext fun d => (KM_hd L b m h d).symm

theorem srow_eq (b : Fin 16) (t : Fin 2048) (h : Fin 4) :
    (fun m => (res_main_v72 L : FVec Ideal S16x4x2048x256 .f32) (ix4 b h t m))
      = scoreR (rms (Ideal.ofBits .f32 0x43000000#32) (fun d => A8 L (ix2 0 d)) fun d => qrow L b t (hd h d))
          (fun m d => KM L b m (hd h d)) := funext fun m => (s_at L b h t m).trans
  (congrArg₂ (fun q k => scoreR q k m) (congrArg (rms (Ideal.ofBits .f32 0x43000000#32) fun d => A8 L (ix2 0 d)) (qrow_eq L b t h))
    (funext fun m => krow_eq L b m h))

theorem erow_eq (b : Fin 16) (t : Fin 2048) (h : Fin 4) (m : Fin 256) : R79 L (ix4 b h t m)
    = expW (scoreR (rms (Ideal.ofBits .f32 0x43000000#32) (fun d => A8 L (ix2 0 d)) fun d => qrow L b t (hd h d))
          (fun m d => KM L b m (hd h d))) m :=
  (e_at L b h t m).trans (congrArg (fun s => expW s m) (srow_eq L b t h))

theorem mid_eq (b : Fin 16) (t : Fin 2048) : (fun l => (res_main_v88 L : FVec Ideal S16x2048x1024 .f32) (ix3 b t l))
    = midRow HR (pre L b t) (qrow L b t) (fun d => A8 L (ix2 0 d)) (KM L b) (VM L b) (fun e l => A10 L (ix3 0 e l)) := by
  funext l
  refine (h2_at L b t l).trans ?_
  unfold midRow
  refine congrArg₂ (· + ·) (h1_at L b t l) (Finset.sum_congr rfl fun h _ => Finset.sum_congr rfl fun d _ => ?_)
  refine congrArg (· * A10 L (ix3 0 (hd h d) l)) ?_
  simp only [erow_eq]
  exact Finset.sum_congr rfl fun m _ => congrArg₂ (fun x y : EReal => x * y) (kv_at L b m _) rfl

theorem ref_value : OUT L = RES HR (A0 L) (A1 L) (A2 L) (A3 L) (A4 L) (A5 L) (A6 L) (A7 L) (A8 L) (A9 L) (A10 L) (A11 L) (A12 L) (A13 L) := by
  funext i
  obtain ⟨b, t, l, rfl⟩ : ∃ (b : Fin 16) (t : Fin 2048) (l : Fin 1024), i = ix3 b t l :=
    ⟨i 0, i 1, i 2, funext fun a => by fin_cases a <;> rfl⟩
  refine (out_at L b t l).trans ?_
  exact congrArg (fun v => mlpRow v (fun d => A11 L (ix2 0 d)) (fun k f => A12 L (ix3 0 k f)) (fun f l => A13 L (ix3 0 f l)) l) (mid_eq L b t)

end Cert.Tail.Ref

end
-- ==== Proof.Bridge.lean ====
/- The precondition read as "every gain is a real number", and the two results equal under it. -/
module

public import proofs.«01_k».proof.Defs
public import proofs.«01_k».proof.Proof.RefRow

@[expose] public section

set_option maxRecDepth 16384

noncomputable section

namespace Cert.Tail

open Idealize.ShloMosaic Idealize.ShloMosaic.TcCoe Idealize.SL.Sem
open Cert.KernelIdeal

theorem preFacts : Cert.Pre_head_gains_finite.Facts where
  bcast_S_S1x128 := by decide

theorem inf_top : Ideal.ofBits .f32 0x7F800000#32 = (⊤ : EReal) := by
  simp [Ideal.ofBits, Ideal.ieee]

theorem real_of_olt (a : EReal) (h' : max a (-a) < ⊤) : IsReal a := by
  have ht : a ≠ ⊤ := fun e => absurd h' (by simp [e])
  have hb : a ≠ ⊥ := fun e => absurd h' (by simp [e])
  exact ⟨a.toReal, (EReal.coe_toReal ht hb).symm⟩

attribute [local instance] preFacts in
theorem gains_real (a0 : FVec Ideal S16x2048x1024 .f32) (a1 : FVec Ideal S16x2048x1024 .bf16) (a2 : FVec Ideal S16x256x1024 .f32)
    (a3 : FVec Ideal S1x1024x1024 .f32) (a4 a5 : FVec Ideal S1x1024 .f32) (a6 : FVec Ideal S1x1024x512 .f32)
    (a7 : FVec Ideal S1x1024x1024 .f32) (a8 a9 : FVec Ideal S1x128 .f32) (a10 : FVec Ideal S1x512x1024 .f32)
    (a11 : FVec Ideal S1x1024 .f32) (a12 : FVec Ideal S1x1024x4096 .f32) (a13 : FVec Ideal S1x4096x1024 .f32)
    (h : Cert.Pre_head_gains_finite.fn a0 a1 a2 a3 a4 a5 a6 a7 a8 a9 a10 a11 a12 a13 = fun _ => 1#1) (d : Fin 128) :
    IsReal (a8 (ix2 0 d)) ∧ IsReal (a9 (ix2 0 d)) := by
  have hd := congrFun h (ix2 0 d)
  unfold Cert.Pre_head_gains_finite.fn at hd
  pointwise at hd
  rw [inf_top] at hd
  have both : ∀ p q : Bool, IntOp.andi (BitVec.ofBool p) (BitVec.ofBool q) = 1#1 → p = true ∧ q = true := by decide
  obtain ⟨e8, e9⟩ := both _ _ hd
  exact ⟨real_of_olt _ (of_decide_eq_true e8), real_of_olt _ (of_decide_eq_true e9)⟩

/-- With finite head gains both orders of operations give the same layer. -/
theorem res_eq (a0 : FVec Ideal S16x2048x1024 .f32) (a1 : FVec Ideal S16x2048x1024 .bf16) (a2 : FVec Ideal S16x256x1024 .f32)
    (a3 : FVec Ideal S1x1024x1024 .f32) (a4 a5 : FVec Ideal S1x1024 .f32) (a6 : FVec Ideal S1x1024x512 .f32)
    (a7 : FVec Ideal S1x1024x1024 .f32) (a8 a9 : FVec Ideal S1x128 .f32) (a10 : FVec Ideal S1x512x1024 .f32)
    (a11 : FVec Ideal S1x1024 .f32) (a12 : FVec Ideal S1x1024x4096 .f32) (a13 : FVec Ideal S1x4096x1024 .f32)
    (h8 : ∀ d, IsReal (a8 (ix2 0 d))) (h9 : ∀ d, IsReal (a9 (ix2 0 d))) :
    RES HK a0 a1 a2 a3 a4 a5 a6 a7 a8 a9 a10 a11 a12 a13 = RES Ref.HR a0 a1 a2 a3 a4 a5 a6 a7 a8 a9 a10 a11 a12 a13 := by
  funext i
  exact congrFun (tailRow_eq _ _ _ _ _ _ _ _ _ _ _ _ h8 fun m h d => memK_real _ _ _ _ h9 _ _) (i 2)

end Cert.Tail

end
-- ==== Proof.RefFrame.lean ====
/- The reference's frame claim: its run, read at its arguments; it has no semaphore. -/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Run
public import proofs.«01_k».proof.Proof.KernelValue
public import proofs.«01_k».proof.Proof.RefRow
public import proofs.«01_k».proof.Proof.Bridge

@[expose] public section

noncomputable section

namespace Cert.Proof

open Idealize.ShloMosaic Idealize.ShloMosaic.TcCoe Idealize.ShloMosaic.Tactic Idealize.ShloMosaic.StableHlo Idealize.SL.Sem
open Cert.Tail

attribute [local instance] preFacts

/-- The reference terminates, its arguments unchanged and every counter at zero, of which it has none. -/
theorem ref_frame : quiescent_ReferenceIdeal := by
  intro m g _
  refine (θ_run Cert.ReferenceIdeal.defs _ _).mono (fun r h => ⟨fun c => (h c).2, funext fun x => ?_⟩) (Cert.ReferenceIdeal.Value.run m g)
  rcases x with ⟨_, s | s⟩
  · exact s.elim0
  · exact s.elim0

end Cert.Proof

end
-- ==== Proof.Value.lean ====
/- The value claim: the kernel's run and the reference's, joined by the equality of their results. -/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Run
public import proofs.«01_k».proof.Proof.KernelValue
public import proofs.«01_k».proof.Proof.RefRow
public import proofs.«01_k».proof.Proof.Bridge

@[expose] public section

noncomputable section

namespace Cert.Proof

open Idealize.ShloMosaic Idealize.ShloMosaic.TcCoe Idealize.ShloMosaic.Tactic Idealize.ShloMosaic.StableHlo Idealize.SL.Sem
open Cert.Tail

attribute [local instance] preFacts

/-- Of equal arguments with finite head gains the reference's result is the kernel's. -/
theorem value_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Pre_KernelIdeal_head_gains_finite m) (c : Dev Cert.KernelIdeal.nD)
    (e0 : Ref.A0 (launchContents m' c) = m ((c.tc : Thread Cert.KernelIdeal.nD Cert.KernelIdeal.τ).loc Cert.KernelIdeal.main_arg0))
    (e1 : Ref.A1 (launchContents m' c) = m ((c.tc : Thread Cert.KernelIdeal.nD Cert.KernelIdeal.τ).loc Cert.KernelIdeal.main_arg1))
    (e2 : Ref.A2 (launchContents m' c) = m ((c.tc : Thread Cert.KernelIdeal.nD Cert.KernelIdeal.τ).loc Cert.KernelIdeal.main_arg2))
    (e3 : Ref.A3 (launchContents m' c) = m ((c.tc : Thread Cert.KernelIdeal.nD Cert.KernelIdeal.τ).loc Cert.KernelIdeal.main_arg3))
    (e4 : Ref.A4 (launchContents m' c) = m ((c.tc : Thread Cert.KernelIdeal.nD Cert.KernelIdeal.τ).loc Cert.KernelIdeal.main_arg4))
    (e5 : Ref.A5 (launchContents m' c) = m ((c.tc : Thread Cert.KernelIdeal.nD Cert.KernelIdeal.τ).loc Cert.KernelIdeal.main_arg5))
    (e6 : Ref.A6 (launchContents m' c) = m ((c.tc : Thread Cert.KernelIdeal.nD Cert.KernelIdeal.τ).loc Cert.KernelIdeal.main_arg6))
    (e7 : Ref.A7 (launchContents m' c) = m ((c.tc : Thread Cert.KernelIdeal.nD Cert.KernelIdeal.τ).loc Cert.KernelIdeal.main_arg7))
    (e8 : Ref.A8 (launchContents m' c) = m ((c.tc : Thread Cert.KernelIdeal.nD Cert.KernelIdeal.τ).loc Cert.KernelIdeal.main_arg8))
    (e9 : Ref.A9 (launchContents m' c) = m ((c.tc : Thread Cert.KernelIdeal.nD Cert.KernelIdeal.τ).loc Cert.KernelIdeal.main_arg9))
    (e10 : Ref.A10 (launchContents m' c) = m ((c.tc : Thread Cert.KernelIdeal.nD Cert.KernelIdeal.τ).loc Cert.KernelIdeal.main_arg10))
    (e11 : Ref.A11 (launchContents m' c) = m ((c.tc : Thread Cert.KernelIdeal.nD Cert.KernelIdeal.τ).loc Cert.KernelIdeal.main_arg11))
    (e12 : Ref.A12 (launchContents m' c) = m ((c.tc : Thread Cert.KernelIdeal.nD Cert.KernelIdeal.τ).loc Cert.KernelIdeal.main_arg12))
    (e13 : Ref.A13 (launchContents m' c) = m ((c.tc : Thread Cert.KernelIdeal.nD Cert.KernelIdeal.τ).loc Cert.KernelIdeal.main_arg13)) :
    Ref.OUT (launchContents m' c) = (Cert.KernelIdeal.Gen.dat1 (Cert.KernelIdeal.Gen.V3 m g) c).arrAt 12 Cert.KernelIdeal.cfg1.N := by
  have hg := fun d => gains_real _ _ _ _ _ _ _ _ _ _ _ _ _ _ (hpre c) d
  refine (Ref.ref_value (launchContents m' c)).trans ?_
  rw [e0, e1, e2, e3, e4, e5, e6, e7, e8, e9, e10, e11, e12, e13]
  exact (res_eq _ _ _ _ _ _ _ _ _ _ _ _ _ _ (fun d => (hg d).1) (fun d => (hg d).2)).symm.trans (kernel_value m g c).symm

theorem value : algebraic_KernelIdeal_ReferenceIdeal_pre_head_gains_finite := by
  intro m g m' g' hpre hargs
  refine ⟨fun c => (Cert.KernelIdeal.Gen.dat1 (Cert.KernelIdeal.Gen.V3 m g) c).arrAt 12 Cert.KernelIdeal.cfg1.N, Cert.Tail.run m g,
    (θ_run Cert.ReferenceIdeal.defs _ _).mono (fun r h c => ⟨(h c).1.trans ?_, (h c).2⟩) (Cert.ReferenceIdeal.Value.run m' g')⟩
  obtain ⟨e0, e1, e2, e3, e4, e5, e6, e7, e8, e9, e10, e11, e12, e13⟩ := hargs c
  exact value_eq m g m' hpre c e0 e1 e2 e3 e4 e5 e6 e7 e8 e9 e10 e11 e12 e13

end Cert.Proof

end
-- ==== Proof.Rope.lean ====
/- The rotary tables: the kernel's two arrays and the reference's, element by element the cosine and the sine of a
   position times an inverse frequency. -/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Pipeline.ValueKit.Acc
public import Idealize.ShloMosaic.Lib.Claim

@[expose] public section

set_option maxRecDepth 16384

noncomputable section

namespace Cert.Rope

open Idealize.ShloMosaic Idealize.ShloMosaic.TcCoe Idealize.SL.Sem
open Idealize.ShloMosaic.Pipeline (Dat)
open Cert.Kernel2Ideal Cert.Kernel2Ideal.Gen

/-- The angle's first factor, a position as a real number. -/
abbrev posR (w : BitVec 32) : EReal := ((w.toInt : ℝ) : EReal)

/-- The inverse frequencies, `500000` to the power `-2 j / 16`, as the host computes them. -/
def INVF : FVec Ideal S8 .f32 :=
  Host.powf (broadcastInDim S8 ![] bcast_S_S8 (constant S_ .f32 0x48F42400#32))
    (Host.negf (Host.divf (mulf (sitofp .f32 (iotaInDim S8 32 0)) (broadcastInDim S8 ![] bcast_S_S8 (constant S_ .f32 0x40000000#32)))
      (broadcastInDim S8 ![] bcast_S_S8 (constant S_ .f32 0x41800000#32))))

/-- A table of `f` over the angles. -/
def TAB (f : EReal → EReal) (p : IVec S16x2048 32) (w : FVec Ideal S8 .f32) : FVec Ideal S16x8x2048 .f32 :=
  fun i => f (posR (p (ix2 (i 0) (i 2))) * w (ix1 (i 1)))

theorem idx0 : ∀ t : Fin cfg0.N, win0_0.index t = ![t.val, 0, 0] ∧ win0_1.index t = ![0, 0]
    ∧ win0_2.index t = ![t.val, 0, 0] ∧ win0_3.index t = ![t.val, 0, 0] :=
  (by decide +kernel : ∀ t : Fin grid0.N, _)

theorem out2_at (x0 : Vec Ideal S1x1x2048 .i32) (x1 : Vec Ideal S8x1 .f32) (j : Fin 8) (s : Fin 2048) :
    out0_2 x0 x1 (ix3 0 j s) = Ideal.cos (posR (x0 (ix3 0 0 s)) * x1 (ix2 j 0)) := by
  unfold out0_2
  frame_out
  unfold k0_pay2 k0_pay1
  pointwise []
  rfl

theorem out3_at (x0 : Vec Ideal S1x1x2048 .i32) (x1 : Vec Ideal S8x1 .f32) (j : Fin 8) (s : Fin 2048) :
    out0_3 x0 x1 (ix3 0 j s) = Ideal.sin (posR (x0 (ix3 0 0 s)) * x1 (ix2 j 0)) := by
  unfold out0_3
  frame_out
  unfold k0_pay3 k0_pay1
  pointwise []
  rfl

variable (m : (ℓ : Loc nD τ sig) → Buf (Elt Ideal) ℓ) (c : Dev nD)

/-- The positions, as the call takes them. -/
abbrev P8 : IVec S16x1x2048 32 := V m c main_v8
/-- The inverse frequencies, as the call takes them. -/
abbrev F9 : FVec Ideal S8x1 .f32 := V m c main_v9
/-- The positions. -/
abbrev POS : IVec S16x2048 32 := m ((c.tc : Thread nD τ).loc main_arg0)

theorem P8_eq : P8 m c = shapeCast S16x1x2048 (POS m c) shapeCasts_S16x2048_S16x1x2048 := by
  unfold P8 V
  simp only [hostOps0]
  after_results_simp
  try rfl

theorem F9_eq : F9 m c = shapeCast S8x1 INVF shapeCasts_S8_S8x1 := by
  unfold F9 V
  simp only [hostOps0]
  after_results_simp
  try rfl

theorem P8_at (b : Fin 16) (s : Fin 2048) : P8 m c (ix3 b 0 s) = POS m c (ix2 b s) := by
  rw [P8_eq]
  pointwise []

theorem F9_at (j : Fin 8) : F9 m c (ix2 j 0) = INVF (ix1 j) := by
  rw [F9_eq]
  pointwise []

theorem b0 (t : Fin cfg0.N) (s : Fin 2048) : iblk m c 0 t (ix3 0 0 s) = P8 m c (ix3 ⟨t.val, t.isLt⟩ 0 s) := by
  blk_ext [iblk, (idx0 t).1]

theorem b1 (t : Fin cfg0.N) (j : Fin 8) : iblk m c 1 t (ix2 j 0) = F9 m c (ix2 j 0) := by
  blk_ext [iblk, (idx0 t).2.1]

theorem final2 : (dats m 0 c).arrAt 2 cfg0.N = TAB Ideal.cos (POS m c) INVF := by
  refine (dats m 0 c).arrAt_eq_of_covers 2 _ (by decide +kernel) fun t _ y => ?_
  blk_simp
  rw [after0_2]
  obtain ⟨j, s, rfl⟩ : ∃ (j : Fin 8) (s : Fin 2048), y = ix3 0 j s :=
    ⟨y 1, y 2, funext fun a => by fin_cases a <;> first | rfl | exact Fin.ext (Nat.lt_one_iff.mp (show (y 0).val < 1 from (y 0).isLt))⟩
  refine (out2_at _ _ j s).trans ?_
  have e0 : (((cfg0.win 2).blk t).view.emb (ix3 0 j s)) = ix3 ⟨t.val, t.isLt⟩ j s := by
    blk_ext [idx0 t]
  rw [e0, b0, b1, P8_at, F9_at]
  rfl

theorem final3 : (dats m 0 c).arrAt 3 cfg0.N = TAB Ideal.sin (POS m c) INVF := by
  refine (dats m 0 c).arrAt_eq_of_covers 3 _ (by decide +kernel) fun t _ y => ?_
  blk_simp
  rw [after0_3]
  obtain ⟨j, s, rfl⟩ : ∃ (j : Fin 8) (s : Fin 2048), y = ix3 0 j s :=
    ⟨y 1, y 2, funext fun a => by fin_cases a <;> first | rfl | exact Fin.ext (Nat.lt_one_iff.mp (show (y 0).val < 1 from (y 0).isLt))⟩
  refine (out3_at _ _ j s).trans ?_
  have e0 : (((cfg0.win 3).blk t).view.emb (ix3 0 j s)) = ix3 ⟨t.val, t.isLt⟩ j s := by
    blk_ext [idx0 t]
  rw [e0, b0, b1, P8_at, F9_at]
  rfl

/-- The reference terminates, its argument unchanged and every counter at zero, of which it has none. -/
theorem ref_frame : Cert.quiescent_Reference2Ideal := by
  intro m g _
  refine (θ_run Cert.Reference2Ideal.defs _ _).mono (fun r h => ⟨fun c => (h c).2.2, funext fun x => ?_⟩)
    (Cert.Reference2Ideal.Value.run m g)
  rcases x with ⟨_, s | s⟩
  · exact s.elim0
  · exact s.elim0

/-- The kernel's tables are the reference's. -/
theorem algebraic : Cert.algebraic_Kernel2Ideal_Reference2Ideal := by
  intro m g m' g' _ hargs
  refine ⟨fun c => TAB Ideal.cos (POS m c) INVF, fun c => TAB Ideal.sin (POS m c) INVF, ?_, ?_⟩
  · run_from run_main m g
    · exact final2 m c
    · exact final3 m c
  · refine (θ_run Cert.Reference2Ideal.defs _ _).mono (fun r h c => ⟨(h c).1.trans ?_, (h c).2.1.trans ?_, (h c).2.2⟩)
      (Cert.Reference2Ideal.Value.run m' g')
    · rw [hargs c]
      funext i
      obtain ⟨b, j, s, rfl⟩ : ∃ (b : Fin 16) (j : Fin 8) (s : Fin 2048), i = ix3 b j s :=
        ⟨i 0, i 1, i 2, funext fun a => by fin_cases a <;> rfl⟩
      unfold TAB INVF
      pointwise []
      rfl
    · rw [hargs c]
      funext i
      obtain ⟨b, j, s, rfl⟩ : ∃ (b : Fin 16) (j : Fin 8) (s : Fin 2048), i = ix3 b j s :=
        ⟨i 0, i 1, i 2, funext fun a => by fin_cases a <;> rfl⟩
      unfold TAB INVF
      pointwise []
      rfl

end Cert.Rope

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.RefFrame
public import proofs.«01_k».proof.Proof.Value
public import proofs.«01_k».proof.Proof.Rope
public import Idealize.ShloMosaic.Adequacy
public import Idealize.ShloMosaic.Init

@[expose] public section

noncomputable section

namespace Cert.Proof

open Idealize.ShloMosaic Idealize.ShloMosaic.TcCoe Idealize.ShloMosaic.Tactic Idealize.ShloMosaic.StableHlo Idealize.SL.Sem
open Cert.Tail

attribute [local instance] preFacts

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, preFacts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.Kernel2.Gen.frame m ρ, fun m ρ _ => Cert.Kernel2Ideal.Gen.frame m ρ, Cert.Rope.ref_frame,
  trivial, value, trivial, Cert.Rope.algebraic⟩

end Cert.Proof

end
